-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x3072x3584 : Shape := ⟨3, ![1, 3072, 3584]⟩
abbrev S1x3072x7168 : Shape := ⟨3, ![1, 3072, 7168]⟩
abbrev S3584x7168 : Shape := ⟨2, ![3584, 7168]⟩
abbrev S1x3072x10752 : Shape := ⟨3, ![1, 3072, 10752]⟩
abbrev S_ : Shape := ⟨0, ![]⟩

class Facts : Prop where
  concatenates_S1x3072x3584_S1x3072x7168_S1x3072x10752_d2 : Shape.Concatenates [S1x3072x3584, S1x3072x7168] S1x3072x10752 2
  bcast_S_S1x3072x10752 : S_.BroadcastsInDim S1x3072x10752 (![] : Fin 0 → Fin S1x3072x10752.rank)

variable [Facts]

def fn {F : FTy → Type} [FloatOps F] (main_arg0 : FVec F S1x3072x3584 .bf16) (main_arg1 : FVec F S1x3072x7168 .bf16) (main_arg2 : FVec F S3584x7168 .f32) : IVec S1x3072x10752 1 :=
  let main_v0 : FVec F S1x3072x10752 .bf16 := (fun a b => concatenate S1x3072x10752 2 [⟨S1x3072x3584, a⟩, ⟨S1x3072x7168, b⟩] concatenates_S1x3072x3584_S1x3072x7168_S1x3072x10752_d2) main_arg0 main_arg1
  let main_v1 : FVec F S1x3072x10752 .bf16 := Host.absf main_v0
  let main_cst : FVec F S_ .bf16 := constant S_ .bf16 0x7F7F#16
  let main_v2 : FVec F S1x3072x10752 .bf16 := broadcastInDim S1x3072x10752 ![] bcast_S_S1x3072x10752 main_cst
  let main_v3 : IVec S1x3072x10752 1 := cmpf .ole main_v1 main_v2
  let main_cst_0 : FVec F S_ .bf16 := constant S_ .bf16 0x7F80#16
  let main_v4 : FVec F S1x3072x10752 .bf16 := broadcastInDim S1x3072x10752 ![] bcast_S_S1x3072x10752 main_cst_0
  let main_v5 : IVec S1x3072x10752 1 := cmpf .oeq main_v1 main_v4
  let main_v6 : IVec S1x3072x10752 1 := ori main_v3 main_v5
  main_v6
-- ==== Kernel.lean ====
abbrev S1x3072x3584 : Shape := ⟨3, ![1, 3072, 3584]⟩
abbrev S1x3072x7168 : Shape := ⟨3, ![1, 3072, 7168]⟩
abbrev S3584x7168 : Shape := ⟨2, ![3584, 7168]⟩
abbrev S3072x3584 : Shape := ⟨2, ![3072, 3584]⟩
abbrev S3072x7168 : Shape := ⟨2, ![3072, 7168]⟩
abbrev S24x3584 : Shape := ⟨2, ![24, 3584]⟩
abbrev S24x7168 : Shape := ⟨2, ![24, 7168]⟩
abbrev S3072x512 : Shape := ⟨2, ![3072, 512]⟩
abbrev S512x512 : Shape := ⟨2, ![512, 512]⟩
abbrev S24x512 : Shape := ⟨2, ![24, 512]⟩
abbrev S3584x3072 : Shape := ⟨2, ![3584, 3072]⟩
abbrev S128x512 : Shape := ⟨2, ![128, 512]⟩
abbrev S8x16x512 : Shape := ⟨3, ![8, 16, 512]⟩
abbrev S16x512 : Shape := ⟨2, ![16, 512]⟩
abbrev S512 : Shape := ⟨1, ![512]⟩
abbrev S1x512 : Shape := ⟨2, ![1, 512]⟩
abbrev S255x512 : Shape := ⟨2, ![255, 512]⟩
abbrev S512x128 : Shape := ⟨2, ![512, 128]⟩
abbrev S512x3072 : Shape := ⟨2, ![512, 3072]⟩

abbrev nBuf : Space → Nat
  | .hbm => 10
  | .vmem => 18
  | .smem => 0
  | _ => 0

abbrev bufTy : (tb : Table) → Fin (tcTables nBuf tb) → BufTy
  | .hbm, ⟨0, _⟩ => ⟨S1x3072x3584, .bf16⟩
  | .hbm, ⟨1, _⟩ => ⟨S1x3072x7168, .bf16⟩
  | .hbm, ⟨2, _⟩ => ⟨S3584x7168, .f32⟩
  | .hbm, ⟨3, _⟩ => ⟨S3072x3584, .bf16⟩
  | .hbm, ⟨4, _⟩ => ⟨S3072x7168, .bf16⟩
  | .hbm, ⟨5, _⟩ => ⟨S3584x7168, .f32⟩
  | .hbm, ⟨6, _⟩ => ⟨S3072x3584, .fp8e4m3⟩
  | .hbm, ⟨7, _⟩ => ⟨S24x3584, .f32⟩
  | .hbm, ⟨8, _⟩ => ⟨S3072x7168, .fp8e5m2⟩
  | .hbm, ⟨9, _⟩ => ⟨S24x7168, .f32⟩
  | .local _ .vmem, ⟨0, _⟩ => ⟨S3072x512, .bf16⟩
  | .local _ .vmem, ⟨1, _⟩ => ⟨S3072x512, .bf16⟩
  | .local _ .vmem, ⟨2, _⟩ => ⟨S3072x512, .bf16⟩
  | .local _ .vmem, ⟨3, _⟩ => ⟨S3072x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S3072x512, .fp8e4m3⟩
  | .local _ .vmem, ⟨9, _⟩ => ⟨S3072x512, .fp8e4m3⟩
  | .local _ .vmem, ⟨10, _⟩ => ⟨S24x512, .f32⟩
  | .local _ .vmem, ⟨11, _⟩ => ⟨S24x512, .f32⟩
  | .local _ .vmem, ⟨12, _⟩ => ⟨S3072x512, .fp8e5m2⟩
  | .local _ .vmem, ⟨13, _⟩ => ⟨S3072x512, .fp8e5m2⟩
  | .local _ .vmem, ⟨14, _⟩ => ⟨S24x512, .f32⟩
  | .local _ .vmem, ⟨15, _⟩ => ⟨S24x512, .f32⟩
  | .local _ .vmem, ⟨16, _⟩ => ⟨S3584x3072, .bf16⟩
  | .local _ .vmem, ⟨17, _⟩ => ⟨S3072x512, .bf16⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![14, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32_26 : BitVec 32 := 512#32
  let v70 : BitVec 32 := Scalar.muli arg1 c512_i32_26
  v70
def k0_off1 (i : grid0.Coords) : Fin 2 → Nat :=
  let arg1 : BitVec 32 := BitVec.ofNat 32 (i 1).val
  let c512_i32_26 : BitVec 32 := 512#32
  let v70 : BitVec 32 := Scalar.muli arg1 c512_i32_26
  let v71 : BitVec 32 := v70
  let v72 : Index := Scalar.indexCast v71
  let c0_27 : Index := 0#32
  ![v72.toNat, 0]
def k0_mult2 (i : grid0.Coords) : BitVec 32 :=
  let arg1 : BitVec 32 := BitVec.ofNat 32 (i 1).val
  let c512_i32_48 : BitVec 32 := 512#32
  let v131 : BitVec 32 := Scalar.muli arg1 c512_i32_48
  v131
def k0_off2 (i : grid0.Coords) : Fin 2 → Nat :=
  let arg1 : BitVec 32 := BitVec.ofNat 32 (i 1).val
  let c512_i32_48 : BitVec 32 := 512#32
  let v131 : BitVec 32 := Scalar.muli arg1 c512_i32_48
  let v132 : BitVec 32 := v131
  let v133 : Index := Scalar.indexCast v132
  let c128_49 : Index := 128#32
  ![v133.toNat, 128]
def k0_mult3 (i : grid0.Coords) : BitVec 32 :=
  let arg1 : BitVec 32 := BitVec.ofNat 32 (i 1).val
  let c512_i32_70 : BitVec 32 := 512#32
  let v192 : BitVec 32 := Scalar.muli arg1 c512_i32_70
  v192
def k0_off3 (i : grid0.Coords) : Fin 2 → Nat :=
  let arg1 : BitVec 32 := BitVec.ofNat 32 (i 1).val
  let c512_i32_70 : BitVec 32 := 512#32
  let v192 : BitVec 32 := Scalar.muli arg1 c512_i32_70
  let v193 : BitVec 32 := v192
  let v194 : Index := Scalar.indexCast v193
  let c256_71 : Index := 256#32
  ![v194.toNat, 256]
def k0_mult4 (i : grid0.Coords) : BitVec 32 :=
  let arg1 : BitVec 32 := BitVec.ofNat 32 (i 1).val
  let c512_i32_92 : BitVec 32 := 512#32
  let v253 : BitVec 32 := Scalar.muli arg1 c512_i32_92
  v253
def k0_off4 (i : grid0.Coords) : Fin 2 → Nat :=
  let arg1 : BitVec 32 := BitVec.ofNat 32 (i 1).val
  let c512_i32_92 : BitVec 32 := 512#32
  let v253 : BitVec 32 := Scalar.muli arg1 c512_i32_92
  let v254 : BitVec 32 := v253
  let v255 : Index := Scalar.indexCast v254
  let c384_93 : Index := 384#32
  ![v255.toNat, 384]
def k0_mult5 (i : grid0.Coords) : BitVec 32 :=
  let arg1 : BitVec 32 := BitVec.ofNat 32 (i 1).val
  let c512_i32_114 : BitVec 32 := 512#32
  let v314 : BitVec 32 := Scalar.muli arg1 c512_i32_114
  v314
def k0_off5 (i : grid0.Coords) : Fin 2 → Nat :=
  let arg1 : BitVec 32 := BitVec.ofNat 32 (i 1).val
  let c512_i32_114 : BitVec 32 := 512#32
  let v314 : BitVec 32 := Scalar.muli arg1 c512_i32_114
  let v315 : BitVec 32 := v314
  let v316 : Index := Scalar.indexCast v315
  let c512_115 : Index := 512#32
  ![v316.toNat, 512]
def k0_mult6 (i : grid0.Coords) : BitVec 32 :=
  let arg1 : BitVec 32 := BitVec.ofNat 32 (i 1).val
  let c512_i32_136 : BitVec 32 := 512#32
  let v375 : BitVec 32 := Scalar.muli arg1 c512_i32_136
  v375
def k0_off6 (i : grid0.Coords) : Fin 2 → Nat :=
  let arg1 : BitVec 32 := BitVec.ofNat 32 (i 1).val
  let c512_i32_136 : BitVec 32 := 512#32
  let v375 : BitVec 32 := Scalar.muli arg1 c512_i32_136
  let v376 : BitVec 32 := v375
  let v377 : Index := Scalar.indexCast v376
  let c640_137 : Index := 640#32
  ![v377.toNat, 640]
def k0_mult7 (i : grid0.Coords) : BitVec 32 :=
  let arg1 : BitVec 32 := BitVec.ofNat 32 (i 1).val
  let c512_i32_158 : BitVec 32 := 512#32
  let v436 : BitVec 32 := Scalar.muli arg1 c512_i32_158
  v436
def k0_off7 (i : grid0.Coords) : Fin 2 → Nat :=
  let arg1 : BitVec 32 := BitVec.ofNat 32 (i 1).val
  let c512_i32_158 : BitVec 32 := 512#32
  let v436 : BitVec 32 := Scalar.muli arg1 c512_i32_158
  let v437 : BitVec 32 := v436
  let v438 : Index := Scalar.indexCast v437
  let c768_159 : Index := 768#32
  ![v438.toNat, 768]
def k0_mult8 (i : grid0.Coords) : BitVec 32 :=
  let arg1 : BitVec 32 := BitVec.ofNat 32 (i 1).val
  let c512_i32_180 : BitVec 32 := 512#32
  let v497 : BitVec 32 := Scalar.muli arg1 c512_i32_180
  v497
def k0_off8 (i : grid0.Coords) : Fin 2 → Nat :=
  let arg1 : BitVec 32 := BitVec.ofNat 32 (i 1).val
  let c512_i32_180 : BitVec 32 := 512#32
  let v497 : BitVec 32 := Scalar.muli arg1 c512_i32_180
  let v498 : BitVec 32 := v497
  let v499 : Index := Scalar.indexCast v498
  let c896_181 : Index := 896#32
  ![v499.toNat, 896]
def k0_mult9 (i : grid0.Coords) : BitVec 32 :=
  let arg1 : BitVec 32 := BitVec.ofNat 32 (i 1).val
  let c512_i32_202 : BitVec 32 := 512#32
  let v558 : BitVec 32 := Scalar.muli arg1 c512_i32_202
  v558
def k0_off9 (i : grid0.Coords) : Fin 2 → Nat :=
  let arg1 : BitVec 32 := BitVec.ofNat 32 (i 1).val
  let c512_i32_202 : BitVec 32 := 512#32
  let v558 : BitVec 32 := Scalar.muli arg1 c512_i32_202
  let v559 : BitVec 32 := v558
  let v560 : Index := Scalar.indexCast v559
  let c1024_203 : Index := 1024#32
  ![v560.toNat, 1024]
def k0_mult10 (i : grid0.Coords) : BitVec 32 :=
  let arg1 : BitVec 32 := BitVec.ofNat 32 (i 1).val
  let c512_i32_224 : BitVec 32 := 512#32
  let v619 : BitVec 32 := Scalar.muli arg1 c512_i32_224
  v619
def k0_off10 (i : grid0.Coords) : Fin 2 → Nat :=
  let arg1 : BitVec 32 := BitVec.ofNat 32 (i 1).val
  let c512_i32_224 : BitVec 32 := 512#32
  let v619 : BitVec 32 := Scalar.muli arg1 c512_i32_224
  let v620 : BitVec 32 := v619
  let v621 : Index := Scalar.indexCast v620
  let c1152_225 : Index := 1152#32
  ![v621.toNat, 1152]
def k0_mult11 (i : grid0.Coords) : BitVec 32 :=
  let arg1 : BitVec 32 := BitVec.ofNat 32 (i 1).val
  let c512_i32_246 : BitVec 32 := 512#32
  let v680 : BitVec 32 := Scalar.muli arg1 c512_i32_246
  v680
def k0_off11 (i : grid0.Coords) : Fin 2 → Nat :=
  let arg1 : BitVec 32 := BitVec.ofNat 32 (i 1).val
  let c512_i32_246 : BitVec 32 := 512#32
  let v680 : BitVec 32 := Scalar.muli arg1 c512_i32_246
  let v681 : BitVec 32 := v680
  let v682 : Index := Scalar.indexCast v681
  let c1280_247 : Index := 1280#32
  ![v682.toNat, 1280]
def k0_mult12 (i : grid0.Coords) : BitVec 32 :=
  let arg1 : BitVec 32 := BitVec.ofNat 32 (i 1).val
  let c512_i32_268 : BitVec 32 := 512#32
  let v741 : BitVec 32 := Scalar.muli arg1 c512_i32_268
  v741
def k0_off12 (i : grid0.Coords) : Fin 2 → Nat :=
  let arg1 : BitVec 32 := BitVec.ofNat 32 (i 1).val
  let c512_i32_268 : BitVec 32 := 512#32
  let v741 : BitVec 32 := Scalar.muli arg1 c512_i32_268
  let v742 : BitVec 32 := v741
  let v743 : Index := Scalar.indexCast v742
  let c1408_269 : Index := 1408#32
  ![v743.toNat, 1408]
def k0_mult13 (i : grid0.Coords) : BitVec 32 :=
  let arg1 : BitVec 32 := BitVec.ofNat 32 (i 1).val
  let c512_i32_290 : BitVec 32 := 512#32
  let v802 : BitVec 32 := Scalar.muli arg1 c512_i32_290
  v802
def k0_off13 (i : grid0.Coords) : Fin 2 → Nat :=
  let arg1 : BitVec 32 := BitVec.ofNat 32 (i 1).val
  let c512_i32_290 : BitVec 32 := 512#32
  let v802 : BitVec 32 := Scalar.muli arg1 c512_i32_290
  let v803 : BitVec 32 := v802
  let v804 : Index := Scalar.indexCast v803
  let c1536_291 : Index := 1536#32
  ![v804.toNat, 1536]
def k0_mult14 (i : grid0.Coords) : BitVec 32 :=
  let arg1 : BitVec 32 := BitVec.ofNat 32 (i 1).val
  let c512_i32_312 : BitVec 32 := 512#32
  let v863 : BitVec 32 := Scalar.muli arg1 c512_i32_312
  v863
def k0_off14 (i : grid0.Coords) : Fin 2 → Nat :=
  let arg1 : BitVec 32 := BitVec.ofNat 32 (i 1).val
  let c512_i32_312 : BitVec 32 := 512#32
  let v863 : BitVec 32 := Scalar.muli arg1 c512_i32_312
  let v864 : BitVec 32 := v863
  let v865 : Index := Scalar.indexCast v864
  let c1664_313 : Index := 1664#32
  ![v865.toNat, 1664]
def k0_mult15 (i : grid0.Coords) : BitVec 32 :=
  let arg1 : BitVec 32 := BitVec.ofNat 32 (i 1).val
  let c512_i32_334 : BitVec 32 := 512#32
  let v924 : BitVec 32 := Scalar.muli arg1 c512_i32_334
  v924
def k0_off15 (i : grid0.Coords) : Fin 2 → Nat :=
  let arg1 : BitVec 32 := BitVec.ofNat 32 (i 1).val
  let c512_i32_334 : BitVec 32 := 512#32
  let v924 : BitVec 32 := Scalar.muli arg1 c512_i32_334
  let v925 : BitVec 32 := v924
  let v926 : Index := Scalar.indexCast v925
  let c1792_335 : Index := 1792#32
  ![v926.toNat, 1792]
def k0_mult16 (i : grid0.Coords) : BitVec 32 :=
  let arg1 : BitVec 32 := BitVec.ofNat 32 (i 1).val
  let c512_i32_356 : BitVec 32 := 512#32
  let v985 : BitVec 32 := Scalar.muli arg1 c512_i32_356
  v985
def k0_off16 (i : grid0.Coords) : Fin 2 → Nat :=
  let arg1 : BitVec 32 := BitVec.ofNat 32 (i 1).val
  let c512_i32_356 : BitVec 32 := 512#32
  let v985 : BitVec 32 := Scalar.muli arg1 c512_i32_356
  let v986 : BitVec 32 := v985
  let v987 : Index := Scalar.indexCast v986
  let c1920_357 : Index := 1920#32
  ![v987.toNat, 1920]
def k0_mult17 (i : grid0.Coords) : BitVec 32 :=
  let arg1 : BitVec 32 := BitVec.ofNat 32 (i 1).val
  let c512_i32_378 : BitVec 32 := 512#32
  let v1046 : BitVec 32 := Scalar.muli arg1 c512_i32_378
  v1046
def k0_off17 (i : grid0.Coords) : Fin 2 → Nat :=
  let arg1 : BitVec 32 := BitVec.ofNat 32 (i 1).val
  let c512_i32_378 : BitVec 32 := 512#32
  let v1046 : BitVec 32 := Scalar.muli arg1 c512_i32_378
  let v1047 : BitVec 32 := v1046
  let v1048 : Index := Scalar.indexCast v1047
  let c2048_379 : Index := 2048#32
  ![v1048.toNat, 2048]
def k0_mult18 (i : grid0.Coords) : BitVec 32 :=
  let arg1 : BitVec 32 := BitVec.ofNat 32 (i 1).val
  let c512_i32_400 : BitVec 32 := 512#32
  let v1107 : BitVec 32 := Scalar.muli arg1 c512_i32_400
  v1107
def k0_off18 (i : grid0.Coords) : Fin 2 → Nat :=
  let arg1 : BitVec 32 := BitVec.ofNat 32 (i 1).val
  let c512_i32_400 : BitVec 32 := 512#32
  let v1107 : BitVec 32 := Scalar.muli arg1 c512_i32_400
  let v1108 : BitVec 32 := v1107
  let v1109 : Index := Scalar.indexCast v1108
  let c2176_401 : Index := 2176#32
  ![v1109.toNat, 2176]
def k0_mult19 (i : grid0.Coords) : BitVec 32 :=
  let arg1 : BitVec 32 := BitVec.ofNat 32 (i 1).val
  let c512_i32_422 : BitVec 32 := 512#32
  let v1168 : BitVec 32 := Scalar.muli arg1 c512_i32_422
  v1168
def k0_off19 (i : grid0.Coords) : Fin 2 → Nat :=
  let arg1 : BitVec 32 := BitVec.ofNat 32 (i 1).val
  let c512_i32_422 : BitVec 32 := 512#32
  let v1168 : BitVec 32 := Scalar.muli arg1 c512_i32_422
  let v1169 : BitVec 32 := v1168
  let v1170 : Index := Scalar.indexCast v1169
  let c2304_423 : Index := 2304#32
  ![v1170.toNat, 2304]
def k0_mult20 (i : grid0.Coords) : BitVec 32 :=
  let arg1 : BitVec 32 := BitVec.ofNat 32 (i 1).val
  let c512_i32_444 : BitVec 32 := 512#32
  let v1229 : BitVec 32 := Scalar.muli arg1 c512_i32_444
  v1229
def k0_off20 (i : grid0.Coords) : Fin 2 → Nat :=
  let arg1 : BitVec 32 := BitVec.ofNat 32 (i 1).val
  let c512_i32_444 : BitVec 32 := 512#32
  let v1229 : BitVec 32 := Scalar.muli arg1 c512_i32_444
  let v1230 : BitVec 32 := v1229
  let v1231 : Index := Scalar.indexCast v1230
  let c2432_445 : Index := 2432#32
  ![v1231.toNat, 2432]
def k0_mult21 (i : grid0.Coords) : BitVec 32 :=
  let arg1 : BitVec 32 := BitVec.ofNat 32 (i 1).val
  let c512_i32_466 : BitVec 32 := 512#32
  let v1290 : BitVec 32 := Scalar.muli arg1 c512_i32_466
  v1290
def k0_off21 (i : grid0.Coords) : Fin 2 → Nat :=
  let arg1 : BitVec 32 := BitVec.ofNat 32 (i 1).val
  let c512_i32_466 : BitVec 32 := 512#32
  let v1290 : BitVec 32 := Scalar.muli arg1 c512_i32_466
  let v1291 : BitVec 32 := v1290
  let v1292 : Index := Scalar.indexCast v1291
  let c2560_467 : Index := 2560#32
  ![v1292.toNat, 2560]
def k0_mult22 (i : grid0.Coords) : BitVec 32 :=
  let arg1 : BitVec 32 := BitVec.ofNat 32 (i 1).val
  let c512_i32_488 : BitVec 32 := 512#32
  let v1351 : BitVec 32 := Scalar.muli arg1 c512_i32_488
  v1351
def k0_off22 (i : grid0.Coords) : Fin 2 → Nat :=
  let arg1 : BitVec 32 := BitVec.ofNat 32 (i 1).val
  let c512_i32_488 : BitVec 32 := 512#32
  let v1351 : BitVec 32 := Scalar.muli arg1 c512_i32_488
  let v1352 : BitVec 32 := v1351
  let v1353 : Index := Scalar.indexCast v1352
  let c2688_489 : Index := 2688#32
  ![v1353.toNat, 2688]
def k0_mult23 (i : grid0.Coords) : BitVec 32 :=
  let arg1 : BitVec 32 := BitVec.ofNat 32 (i 1).val
  let c512_i32_510 : BitVec 32 := 512#32
  let v1412 : BitVec 32 := Scalar.muli arg1 c512_i32_510
  v1412
def k0_off23 (i : grid0.Coords) : Fin 2 → Nat :=
  let arg1 : BitVec 32 := BitVec.ofNat 32 (i 1).val
  let c512_i32_510 : BitVec 32 := 512#32
  let v1412 : BitVec 32 := Scalar.muli arg1 c512_i32_510
  let v1413 : BitVec 32 := v1412
  let v1414 : Index := Scalar.indexCast v1413
  let c2816_511 : Index := 2816#32
  ![v1414.toNat, 2816]
def k0_mult24 (i : grid0.Coords) : BitVec 32 :=
  let arg1 : BitVec 32 := BitVec.ofNat 32 (i 1).val
  let c512_i32_532 : BitVec 32 := 512#32
  let v1473 : BitVec 32 := Scalar.muli arg1 c512_i32_532
  v1473
def k0_off24 (i : grid0.Coords) : Fin 2 → Nat :=
  let arg1 : BitVec 32 := BitVec.ofNat 32 (i 1).val
  let c512_i32_532 : BitVec 32 := 512#32
  let v1473 : BitVec 32 := Scalar.muli arg1 c512_i32_532
  let v1474 : BitVec 32 := v1473
  let v1475 : Index := Scalar.indexCast v1474
  let c2944_533 : Index := 2944#32
  ![v1475.toNat, 2944]
def k0_mult25 (i : grid0.Coords) : BitVec 32 :=
  let arg1 : BitVec 32 := BitVec.ofNat 32 (i 1).val
  let c512_i32 : BitVec 32 := 512#32
  let v6 : BitVec 32 := Scalar.muli arg1 c512_i32
  v6
def k0_off25 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0 : Index := 0#32
  ![v8.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3072x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3072x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3072x512 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S24x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x3072x3584 : Shape := ⟨3, ![1, 3072, 3584]⟩
abbrev S1x3072x7168 : Shape := ⟨3, ![1, 3072, 7168]⟩
abbrev S3584x7168 : Shape := ⟨2, ![3584, 7168]⟩
abbrev S3072x3584 : Shape := ⟨2, ![3072, 3584]⟩
abbrev S3072x7168 : Shape := ⟨2, ![3072, 7168]⟩
abbrev S24x3584 : Shape := ⟨2, ![24, 3584]⟩
abbrev S24x7168 : Shape := ⟨2, ![24, 7168]⟩
abbrev S24x128x3584 : Shape := ⟨3, ![24, 128, 3584]⟩
abbrev S24x1x3584 : Shape := ⟨3, ![24, 1, 3584]⟩
abbrev S24x128x7168 : Shape := ⟨3, ![24, 128, 7168]⟩
abbrev S24x1x7168 : Shape := ⟨3, ![24, 1, 7168]⟩

abbrev nBuf : Space → Nat
  | .hbm => 10
  | .vmem => 8
  | .smem => 0
  | _ => 0

abbrev bufTy : (tb : Table) → Fin (tcTables nBuf tb) → BufTy
  | .hbm, ⟨0, _⟩ => ⟨S1x3072x3584, .bf16⟩
  | .hbm, ⟨1, _⟩ => ⟨S1x3072x7168, .bf16⟩
  | .hbm, ⟨2, _⟩ => ⟨S3584x7168, .f32⟩
  | .hbm, ⟨3, _⟩ => ⟨S3072x3584, .bf16⟩
  | .hbm, ⟨4, _⟩ => ⟨S3072x7168, .bf16⟩
  | .hbm, ⟨5, _⟩ => ⟨S3584x7168, .f32⟩
  | .hbm, ⟨6, _⟩ => ⟨S3072x3584, .fp8e4m3⟩
  | .hbm, ⟨7, _⟩ => ⟨S24x3584, .f32⟩
  | .hbm, ⟨8, _⟩ => ⟨S3072x7168, .fp8e5m2⟩
  | .hbm, ⟨9, _⟩ => ⟨S24x7168, .f32⟩
  | .local _ .vmem, ⟨0, _⟩ => ⟨S3072x3584, .bf16⟩
  | .local _ .vmem, ⟨1, _⟩ => ⟨S3072x7168, .bf16⟩
  | .local _ .vmem, ⟨2, _⟩ => ⟨S3584x7168, .f32⟩
  | .local _ .vmem, ⟨3, _⟩ => ⟨S3584x7168, .f32⟩
  | .local _ .vmem, ⟨4, _⟩ => ⟨S3072x3584, .fp8e4m3⟩
  | .local _ .vmem, ⟨5, _⟩ => ⟨S24x3584, .f32⟩
  | .local _ .vmem, ⟨6, _⟩ => ⟨S3072x7168, .fp8e5m2⟩
  | .local _ .vmem, ⟨7, _⟩ => ⟨S24x7168, .f32⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S3072x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x7168 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.Kit.lean ====
/- What the runs of the kernel body share: the two branch conditions in closed form over the grid points, the staging
   memrefs of a point, and the scratch buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 7 — by arithmetic of the point. -/
theorem hcond0_0 : ∀ t : Fin cfg0.N, cond0_0 (grid0.coords t) ↔ t.val < 7 :=
  (fun t => by
    have ht : t.val < 98 := Nat.lt_of_lt_of_eq t.isLt N_0
    have e0 : (grid0.coords t 0).val = t.val / 7 % 14 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val < 7)

/-- The condition of the body's `scf.if` 1 (`k0_h2`), from the grid coordinates (the skeleton's scalar
    chain substituted). -/
abbrev cond0_1 (i : grid0.Coords) : Prop := k0_cond2 i = 1#1
/-- It holds at the points ≡ 0 (mod 7) — by arithmetic of the point. -/
theorem hcond0_1 : ∀ t : Fin cfg0.N, cond0_1 (grid0.coords t) ↔ t.val % 7 = 0 :=
  (fun t => by
    have ht : t.val < 98 := Nat.lt_of_lt_of_eq t.isLt N_0
    have e0 : (grid0.coords t 0).val = t.val / 7 % 14 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3072x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3072x512 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S24x512 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x3072 .bf16 := Memref.whole cc0_scratch0
abbrev scM0_1 : Memref sig .tc .vmem S3072x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Body.Group.lean ====
/- What the kernel computes of one block of 3072 tokens: it is cut into 24 groups of 128 rows, and of each group the
   kernel keeps the codes, the row of scales, and the values the codes stand for. -/
module

public import proofs.«01_k».proof.Proof.Body.Kit
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Rows `128 g … 128 g + 127` of a block. -/
def groupRect (g : Fin 24) : Rect S3072x512 :=
  Rect.unit (s := S3072x512) ![128 * g.val, 0] S128x512.size (fun a => by have := g.isLt; fin_cases a <;> simp [Shape.size] <;> omega)

/-- Group `g` of a block. -/
def group (X : Vec F S3072x512 .bf16) (g : Fin 24) : Vec F S128x512 .bf16 := View.ld X (groupRect g)

/-- The codes (e4m3), scales and transposed dequantised values of one group of `x`. -/
def codeX (v : Vec F S128x512 .bf16) : Vec F S128x512 .fp8e4m3 := k0_pay9 (k0_pay8 v) (Scalar.ofBits .bf16 0xC3E0#16)
def scaleX (v : Vec F S128x512 .bf16) : Vec F S1x512 .f32 := k0_pay7 v
def deqX (v : Vec F S128x512 .bf16) : Vec F S512x128 .bf16 := k0_pay10 (k0_pay7 v) (k0_pay8 v) (Scalar.ofBits .bf16 0xC3E0#16)

/-- The codes (e5m2), scales and dequantised values of one group of `dy`. -/
def codeY (v : Vec F S128x512 .bf16) : Vec F S128x512 .fp8e5m2 := k0_pay190 (k0_pay189 v) (Scalar.ofBits .bf16 0xC760#16)
def scaleY (v : Vec F S128x512 .bf16) : Vec F S1x512 .f32 := k0_pay188 v
def deqY (v : Vec F S128x512 .bf16) : Vec F S128x512 .bf16 := k0_pay191 (k0_pay188 v) (k0_pay189 v) (Scalar.ofBits .bf16 0xC760#16)

/-- A block of which rows `128 g … 128 g + 127` are `f g`. -/
def stack {e : EltTy} (f : Fin 24 → Vec F S128x512 e) : Vec F S3072x512 e := fun y =>
  f ⟨(y 0).val / 128, by have : (y 0).val < 3072 := (y 0).isLt; omega⟩ (ix2 ⟨(y 0).val % 128, Nat.mod_lt _ (by omega)⟩ (y 1))

/-- An array of which row `g` is `f g`. -/
def stackRows {e : EltTy} (f : Fin 24 → Vec F S1x512 e) : Vec F S24x512 e := fun y => f (y 0) (ix2 0 (y 1))

/-- An array of which columns `128 g … 128 g + 127` are `f g`. -/
def stackCols {e : EltTy} (f : Fin 24 → Vec F S512x128 e) : Vec F S512x3072 e := fun y =>
  f ⟨(y 1).val / 128, by have : (y 1).val < 3072 := (y 1).isLt; omega⟩ (ix2 (y 0) ⟨(y 1).val % 128, Nat.mod_lt _ (by omega)⟩)

/-- What the kernel keeps of a block of `x`: codes, scales, and the dequantised block transposed. -/
def codesX (X : Vec F S3072x512 .bf16) : Vec F S3072x512 .fp8e4m3 := stack fun g => codeX (group X g)
def scalesX (X : Vec F S3072x512 .bf16) : Vec F S24x512 .f32 := stackRows fun g => scaleX (group X g)
def deqsX (X : Vec F S3072x512 .bf16) : Vec F S512x3072 .bf16 := stackCols fun g => deqX (group X g)

/-- What the kernel keeps of a block of `dy`: codes, scales, and the dequantised block. -/
def codesY (X : Vec F S3072x512 .bf16) : Vec F S3072x512 .fp8e5m2 := stack fun g => codeY (group X g)
def scalesY (X : Vec F S3072x512 .bf16) : Vec F S24x512 .f32 := stackRows fun g => scaleY (group X g)
def deqsY (X : Vec F S3072x512 .bf16) : Vec F S3072x512 .bf16 := stack fun g => deqY (group X g)

/-- Reading a stacked block under group `g`'s rectangle gives the group's part. -/
theorem stack_emb {e : EltTy} (f : Fin 24 → Vec F S128x512 e) (g : Fin 24) {off : Fin 2 → ℕ} (h : off = ![128 * g.val, 0])
    (inb : ∀ a, off a + S128x512.size a ≤ S3072x512.size a) (w : Vec F S128x512 e) (hw : w = f g) (x : S128x512.Idx) :
    w x = stack f ((Rect.unit (s := S3072x512) off S128x512.size inb).emb x) := by
  subst h hw
  have h0 : (x 0).val < 128 := (x 0).isLt
  have e0 : ((Rect.unit (s := S3072x512) ![128 * g.val, 0] S128x512.size inb).emb x 0).val = 128 * g.val + 1 * (x 0).val := rfl
  have e1 : ((Rect.unit (s := S3072x512) ![128 * g.val, 0] S128x512.size inb).emb x 1).val = 0 + 1 * (x 1).val := rfl
  refine congr (congrArg f (Fin.ext ?_)) (funext fun a => Fin.ext ?_)
  · show g.val = _ / 128; rw [e0]; omega
  · match a with
    | 0 => show (x 0).val = _ % 128; rw [e0]; omega
    | 1 => show (x 1).val = ((Rect.unit (s := S3072x512) ![128 * g.val, 0] S128x512.size inb).emb x 1).val; rw [e1]; omega

/-- Reading stacked rows under row `g`'s rectangle gives the row. -/
theorem stackRows_emb {e : EltTy} (f : Fin 24 → Vec F S1x512 e) (g : Fin 24) {off : Fin 2 → ℕ} (h : off = ![g.val, 0])
    (inb : ∀ a, off a + S1x512.size a ≤ S24x512.size a) (w : Vec F S1x512 e) (hw : w = f g) (x : S1x512.Idx) :
    w x = stackRows f ((Rect.unit (s := S24x512) off S1x512.size inb).emb x) := by
  subst h hw
  have h0 : (x 0).val < 1 := (x 0).isLt
  have e0 : ((Rect.unit (s := S24x512) ![g.val, 0] S1x512.size inb).emb x 0).val = g.val + 1 * (x 0).val := rfl
  have e1 : ((Rect.unit (s := S24x512) ![g.val, 0] S1x512.size inb).emb x 1).val = 0 + 1 * (x 1).val := rfl
  refine congr (congrArg f (Fin.ext ?_)) (funext fun a => Fin.ext ?_)
  · rw [e0]; omega
  · match a with
    | 0 => show (x 0).val = 0; omega
    | 1 => show (x 1).val = ((Rect.unit (s := S24x512) ![g.val, 0] S1x512.size inb).emb x 1).val; rw [e1]; omega

/-- A scratch of all of `x`, transposed, in which rows `512 k … 512 k + 511`, columns below `128 n`, are replaced by `G`. -/
def putCols (k n : ℕ) (G : Vec F S512x3072 .bf16) (d : Vec F S3584x3072 .bf16) (y : S3584x3072.Idx) : Elt F .bf16 :=
  if h : 512 * k ≤ (y 0).val ∧ (y 0).val < 512 * k + 512 ∧ (y 1).val < 128 * n then G (ix2 ⟨(y 0).val - 512 * k, by omega⟩ (y 1)) else d y

/-- The scratch with all of rows `512 k … 512 k + 511` replaced by `G`. -/
abbrev putRows (k : ℕ) (G : Vec F S512x3072 .bf16) (d : Vec F S3584x3072 .bf16) : Vec F S3584x3072 .bf16 := putCols k 24 G d

/-- Storing group `n` after the groups before it. -/
theorem putCols_step {sg : RefSig} {κ : Kind} {sp : Space} (v : View sg κ sp S3584x3072 .bf16) (f : v.ty.Contents (Elt F))
    (L : List (View.Piece (Elt F) S3584x3072 .bf16)) (k : ℕ) (hk : k < 7) (fs : Fin 24 → Vec F S512x128 .bf16) (n : Fin 24) {off : Fin 2 → ℕ} (h : off = ![512 * k, 128 * n.val])
    (inb : ∀ a, off a + S512x128.size a ≤ S3584x3072.size a) (w : Vec F S512x128 .bf16) (hw : w = fs n)
    (hL : v.read (Elt F) (v.writes (Elt F) f L) = putCols k n.val (stackCols fs) (v.read (Elt F) f)) :
    v.read (Elt F) (v.writes (Elt F) f (⟨Rect.unit (s := S3584x3072) off S512x128.size inb, w⟩ :: L))
      = putCols k (n.val + 1) (stackCols fs) (v.read (Elt F) f) := by
  subst h hw
  funext y
  have hn := n.isLt
  by_cases h0 : 512 * k ≤ (y 0).val ∧ (y 0).val < 512 * k + 512
  · by_cases h1 : 128 * n.val ≤ (y 1).val
    · by_cases h2 : (y 1).val < 128 * n.val + 128
      · rw [View.read_writes_cons_hit v f _ _ L (ix2 (n0 := 512) (n1 := 128) ⟨(y 0).val - 512 * k, by omega⟩ ⟨(y 1).val - 128 * n.val, by omega⟩) y
          (funext fun a => Fin.ext (by
            match a with
            | 0 => show 512 * k + 1 * ((y 0).val - 512 * k) = (y 0).val; omega
            | 1 => show 128 * n.val + 1 * ((y 1).val - 128 * n.val) = (y 1).val; omega))]
        rw [putCols, dif_pos ⟨h0.1, h0.2, by omega⟩, stackCols]
        refine congr (congrArg fs (Fin.ext ?_)) (funext fun a => Fin.ext ?_)
        · show n.val = (y 1).val / 128; omega
        · match a with
          | 0 => rfl
          | 1 => show (y 1).val - 128 * n.val = (y 1).val % 128; omega
      · rw [View.read_writes_cons_miss_of_axis v f _ L y 1 (128 * n.val) 128 rfl rfl rfl (by omega), hL,
          putCols, dif_neg (by omega), putCols, dif_neg (by omega)]
    · rw [View.read_writes_cons_miss_of_axis v f _ L y 1 (128 * n.val) 128 rfl rfl rfl (by omega), hL,
        putCols, dif_pos ⟨h0.1, h0.2, by omega⟩, putCols, dif_pos ⟨h0.1, h0.2, by omega⟩]
  · rw [View.read_writes_cons_miss_of_axis v f _ L y 0 (512 * k) 512 rfl rfl rfl (by omega), hL,
      putCols, dif_neg (by omega), putCols, dif_neg (by omega)]

/-- Before the first group nothing is replaced. -/
theorem putCols_zero (k : ℕ) (G : Vec F S512x3072 .bf16) (d : Vec F S3584x3072 .bf16) : d = putCols k 0 G d := by
  funext y; rw [putCols, dif_neg (by omega)]

end Cert.KernelIdeal.Hand

end
-- ==== Proof.Body.Steps.lean ====
/- The kernel body in its three steps: quantise a block of `x` (first condition), quantise a block of `dy` (second
   condition), and the product. Each is the corresponding stretch of the body,
   word for word, followed by the program `k` that comes after it. -/
module

public import proofs.«01_k».proof.Proof.Body.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The body's first branch: the block of `x` quantised, 24 groups of 128 rows. -/
def stepX (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole) (k0_h1 : k0_cond1 i = 1#1)
    (k : Prog (TpuEff nD τ sig (Elt F) Λ₀ .tc) PUnit) :
    Prog (TpuEff nD τ sig (Elt F) Λ₀ .tc) PUnit := do
  let arg1 : BitVec 32 := BitVec.ofNat 32 (i 1).val
  let ⟨v47, v57, cst_20⟩ : Σ' (v47 : FVec F S1x512 .f32) (v57 : FVec F S128x512 .bf16), F .bf16 ← k0_part1 i arg2 harg2 arg3 harg3 arg4 harg4 arg5 harg5 arg6 harg6 arg7 harg7 arg8 harg8 arg9 harg9 arg10 harg10 arg11 harg11
  let ⟨v77, v96, v98⟩ : Σ' (v77 : FVec F S128x512 .bf16) (v96 : IVec S1x512 32), IVec S1x512 1 ← k0_part2 i arg2 harg2 arg3 harg3 arg4 harg4 arg5 harg5 arg6 harg6 arg7 harg7 arg8 harg8 arg9 harg9 arg10 harg10 arg11 harg11 arg1 k0_h1 v47 v57 cst_20
  let v138 : FVec F S128x512 .bf16 ← k0_part3 i arg2 harg2 arg3 harg3 arg4 harg4 arg5 harg5 arg6 harg6 arg7 harg7 arg8 harg8 arg9 harg9 arg10 harg10 arg11 harg11 arg1 k0_h1 v77 v96 v98
  let ⟨v169, v181, v182⟩ : Σ' (v169 : FVec F S1x512 .f32) (v181 : FVec F S128x512 .bf16), FVec F S128x512 .bf16 ← k0_part4 i arg2 harg2 arg3 harg3 arg4 harg4 arg5 harg5 arg6 harg6 arg7 harg7 arg8 harg8 arg9 harg9 arg10 harg10 arg11 harg11 v138
  let ⟨v199, v218, v223⟩ : Σ' (v199 : FVec F S128x512 .bf16) (v218 : IVec S1x512 32), IVec S1x512 1 ← k0_part5 i arg2 harg2 arg3 harg3 arg4 harg4 arg5 harg5 arg6 harg6 arg7 harg7 arg8 harg8 arg9 harg9 arg10 harg10 arg11 harg11 arg1 k0_h1 v169 v181 v182
  let ⟨v260, v263⟩ : Σ' (v260 : FVec F S128x512 .bf16), FVec F S16x512 .bf16 ← k0_part6 i arg2 harg2 arg3 harg3 arg4 harg4 arg5 harg5 arg6 harg6 arg7 harg7 arg8 harg8 arg9 harg9 arg10 harg10 arg11 harg11 arg1 k0_h1 v199 v218 v223
  let ⟨v291, v306, v307, v308⟩ : Σ' (v291 : FVec F S1x512 .f32) (v306 : FVec F S128x512 .fp8e4m3) (v307 : FVec F S128x512 .bf16), FVec F S1x512 .bf16 ← k0_part7 i arg2 harg2 arg3 harg3 arg4 harg4 arg5 harg5 arg6 harg6 arg7 harg7 arg8 harg8 arg9 harg9 arg10 harg10 arg11 harg11 v260 v263
  let ⟨v321, v340, v345, v347, c127_i32_126⟩ : Σ' (v321 : FVec F S128x512 .bf16) (v340 : IVec S1x512 32) (v345 : IVec S1x512 1) (v347 : IVec S1x512 32), BitVec 32 ← k0_part8 i arg2 harg2 arg3 harg3 arg4 harg4 arg5 harg5 arg6 harg6 arg7 harg7 arg8 harg8 arg9 harg9 arg10 harg10 arg11 harg11 arg1 k0_h1 v291 v306 v307 v308
  let ⟨v382, v388⟩ : Σ' (v382 : FVec F S128x512 .bf16), FVec F S1x512 .f32 ← k0_part9 i arg2 harg2 arg3 harg3 arg4 harg4 arg5 harg5 arg6 harg6 arg7 harg7 arg8 harg8 arg9 harg9 arg10 harg10 arg11 harg11 arg1 k0_h1 v321 v340 v345 v347 c127_i32_126
  let ⟨v413, v428, v432⟩ : Σ' (v413 : FVec F S1x512 .f32) (v428 : FVec F S128x512 .fp8e4m3), FVec F S128x512 .bf16 ← k0_part10 i arg2 harg2 arg3 harg3 arg4 harg4 arg5 harg5 arg6 harg6 arg7 harg7 arg8 harg8 arg9 harg9 arg10 harg10 arg11 harg11 v382 v388
  let ⟨v443, v462, v467, v471, v472⟩ : Σ' (v443 : FVec F S128x512 .bf16) (v462 : IVec S1x512 32) (v467 : IVec S1x512 1) (v471 : IVec S1x512 32), IVec S1x512 32 ← k0_part11 i arg2 harg2 arg3 harg3 arg4 harg4 arg5 harg5 arg6 harg6 arg7 harg7 arg8 harg8 arg9 harg9 arg10 harg10 arg11 harg11 arg1 k0_h1 v413 v428 v432
  let ⟨v504, v512, v513⟩ : Σ' (v504 : FVec F S128x512 .bf16) (v512 : FVec F S1x512 .f32), IVec S255x512 32 ← k0_part12 i arg2 harg2 arg3 harg3 arg4 harg4 arg5 harg5 arg6 harg6 arg7 harg7 arg8 harg8 arg9 harg9 arg10 harg10 arg11 harg11 arg1 k0_h1 v443 v462 v467 v471 v472
  let ⟨v535, v554⟩ : Σ' (v535 : FVec F S1x512 .f32), FVec F S128x512 .bf16 ← k0_part13 i arg2 harg2 arg3 harg3 arg4 harg4 arg5 harg5 arg6 harg6 arg7 harg7 arg8 harg8 arg9 harg9 arg10 harg10 arg11 harg11 v504 v512 v513
  let ⟨v565, v584, v589, v596, v597⟩ : Σ' (v565 : FVec F S128x512 .bf16) (v584 : IVec S1x512 32) (v589 : IVec S1x512 1) (v596 : FVec F S1x512 .f32), IVec S1x512 32 ← k0_part14 i arg2 harg2 arg3 harg3 arg4 harg4 arg5 harg5 arg6 harg6 arg7 harg7 arg8 harg8 arg9 harg9 arg10 harg10 arg11 harg11 arg1 k0_h1 v535 v554
  let ⟨v626, v634, v637, c23_i32_231⟩ : Σ' (v626 : FVec F S128x512 .bf16) (v634 : FVec F S1x512 .f32) (v637 : IVec S255x512 32), BitVec 32 ← k0_part15 i arg2 harg2 arg3 harg3 arg4 harg4 arg5 harg5 arg6 harg6 arg7 harg7 arg8 harg8 arg9 harg9 arg10 harg10 arg11 harg11 arg1 k0_h1 v565 v584 v589 v596 v597
  let ⟨v679, c512_i32_246⟩ : Σ' (v679 : FVec F S512x128 .bf16), BitVec 32 ← k0_part16 i arg2 harg2 arg3 harg3 arg4 harg4 arg5 harg5 arg6 harg6 arg7 harg7 arg8 harg8 arg9 harg9 arg10 harg10 arg11 harg11 v626 v634 v637 c23_i32_231
  let ⟨v687, v718, v722⟩ : Σ' (v687 : FVec F S128x512 .bf16) (v718 : FVec F S1x512 .f32), IVec S1x512 32 ← k0_part17 i arg2 harg2 arg3 harg3 arg4 harg4 arg5 harg5 arg6 harg6 arg7 harg7 arg8 harg8 arg9 harg9 arg10 harg10 arg11 harg11 arg1 k0_h1 v679 c512_i32_246
  let ⟨v748, v762, v763⟩ : Σ' (v748 : FVec F S128x512 .bf16) (v762 : FVec F S255x512 .f32), FVec F S255x512 .f32 ← k0_part18 i arg2 harg2 arg3 harg3 arg4 harg4 arg5 harg5 arg6 harg6 arg7 harg7 arg8 harg8 arg9 harg9 arg10 harg10 arg11 harg11 arg1 k0_h1 v687 v718 v722
  let v801 : FVec F S512x128 .bf16 ← k0_part19 i arg2 harg2 arg3 harg3 arg4 harg4 arg5 harg5 arg6 harg6 arg7 harg7 arg8 harg8 arg9 harg9 arg10 harg10 arg11 harg11 arg1 v748 v762 v763
  let ⟨v809, v840, v847⟩ : Σ' (v809 : FVec F S128x512 .bf16) (v840 : FVec F S1x512 .f32), FVec F S1x512 .f32 ← k0_part20 i arg2 harg2 arg3 harg3 arg4 harg4 arg5 harg5 arg6 harg6 arg7 harg7 arg8 harg8 arg9 harg9 arg10 harg10 arg11 harg11 k0_h1 v801
  let ⟨v870, v888⟩ : Σ' (v870 : FVec F S128x512 .bf16), IVec S512 32 ← k0_part21 i arg2 harg2 arg3 harg3 arg4 harg4 arg5 harg5 arg6 harg6 arg7 harg7 arg8 harg8 arg9 harg9 arg10 harg10 arg11 harg11 arg1 k0_h1 v809 v840 v847
  k0_part22 i arg2 harg2 arg3 harg3 arg4 harg4 arg5 harg5 arg6 harg6 arg7 harg7 arg8 harg8 arg9 harg9 arg10 harg10 arg11 harg11 arg1 k0_h1 v870 v888
  let ⟨v962, v972, cst_351⟩ : Σ' (v962 : FVec F S1x512 .f32) (v972 : FVec F S128x512 .bf16), F .bf16 ← k0_part23 i arg2 harg2 arg3 harg3 arg4 harg4 arg5 harg5 arg6 harg6 arg7 harg7 arg8 harg8 arg9 harg9 arg10 harg10 arg11 harg11
  let ⟨v992, v1011, v1013⟩ : Σ' (v992 : FVec F S128x512 .bf16) (v1011 : IVec S1x512 32), IVec S1x512 1 ← k0_part24 i arg2 harg2 arg3 harg3 arg4 harg4 arg5 harg5 arg6 harg6 arg7 harg7 arg8 harg8 arg9 harg9 arg10 harg10 arg11 harg11 arg1 k0_h1 v962 v972 cst_351
  let v1053 : FVec F S128x512 .bf16 ← k0_part25 i arg2 harg2 arg3 harg3 arg4 harg4 arg5 harg5 arg6 harg6 arg7 harg7 arg8 harg8 arg9 harg9 arg10 harg10 arg11 harg11 arg1 k0_h1 v992 v1011 v1013
  let ⟨v1084, v1096, v1097⟩ : Σ' (v1084 : FVec F S1x512 .f32) (v1096 : FVec F S128x512 .bf16), FVec F S128x512 .bf16 ← k0_part26 i arg2 harg2 arg3 harg3 arg4 harg4 arg5 harg5 arg6 harg6 arg7 harg7 arg8 harg8 arg9 harg9 arg10 harg10 arg11 harg11 v1053
  let ⟨v1114, v1133, v1138⟩ : Σ' (v1114 : FVec F S128x512 .bf16) (v1133 : IVec S1x512 32), IVec S1x512 1 ← k0_part27 i arg2 harg2 arg3 harg3 arg4 harg4 arg5 harg5 arg6 harg6 arg7 harg7 arg8 harg8 arg9 harg9 arg10 harg10 arg11 harg11 arg1 k0_h1 v1084 v1096 v1097
  let ⟨v1175, v1178⟩ : Σ' (v1175 : FVec F S128x512 .bf16), FVec F S16x512 .bf16 ← k0_part28 i arg2 harg2 arg3 harg3 arg4 harg4 arg5 harg5 arg6 harg6 arg7 harg7 arg8 harg8 arg9 harg9 arg10 harg10 arg11 harg11 arg1 k0_h1 v1114 v1133 v1138
  let ⟨v1206, v1221, v1222, v1223⟩ : Σ' (v1206 : FVec F S1x512 .f32) (v1221 : FVec F S128x512 .fp8e4m3) (v1222 : FVec F S128x512 .bf16), FVec F S1x512 .bf16 ← k0_part29 i arg2 harg2 arg3 harg3 arg4 harg4 arg5 harg5 arg6 harg6 arg7 harg7 arg8 harg8 arg9 harg9 arg10 harg10 arg11 harg11 v1175 v1178
  let ⟨v1236, v1255, v1260, v1262, c127_i32_456⟩ : Σ' (v1236 : FVec F S128x512 .bf16) (v1255 : IVec S1x512 32) (v1260 : IVec S1x512 1) (v1262 : IVec S1x512 32), BitVec 32 ← k0_part30 i arg2 harg2 arg3 harg3 arg4 harg4 arg5 harg5 arg6 harg6 arg7 harg7 arg8 harg8 arg9 harg9 arg10 harg10 arg11 harg11 arg1 k0_h1 v1206 v1221 v1222 v1223
  let ⟨v1297, v1303⟩ : Σ' (v1297 : FVec F S128x512 .bf16), FVec F S1x512 .f32 ← k0_part31 i arg2 harg2 arg3 harg3 arg4 harg4 arg5 harg5 arg6 harg6 arg7 harg7 arg8 harg8 arg9 harg9 arg10 harg10 arg11 harg11 arg1 k0_h1 v1236 v1255 v1260 v1262 c127_i32_456
  let ⟨v1328, v1343, v1347⟩ : Σ' (v1328 : FVec F S1x512 .f32) (v1343 : FVec F S128x512 .fp8e4m3), FVec F S128x512 .bf16 ← k0_part32 i arg2 harg2 arg3 harg3 arg4 harg4 arg5 harg5 arg6 harg6 arg7 harg7 arg8 harg8 arg9 harg9 arg10 harg10 arg11 harg11 v1297 v1303
  let ⟨v1358, v1377, v1382, v1386, v1387⟩ : Σ' (v1358 : FVec F S128x512 .bf16) (v1377 : IVec S1x512 32) (v1382 : IVec S1x512 1) (v1386 : IVec S1x512 32), IVec S1x512 32 ← k0_part33 i arg2 harg2 arg3 harg3 arg4 harg4 arg5 harg5 arg6 harg6 arg7 harg7 arg8 harg8 arg9 harg9 arg10 harg10 arg11 harg11 arg1 k0_h1 v1328 v1343 v1347
  let ⟨v1419, v1427, v1428⟩ : Σ' (v1419 : FVec F S128x512 .bf16) (v1427 : FVec F S1x512 .f32), IVec S255x512 32 ← k0_part34 i arg2 harg2 arg3 harg3 arg4 harg4 arg5 harg5 arg6 harg6 arg7 harg7 arg8 harg8 arg9 harg9 arg10 harg10 arg11 harg11 arg1 k0_h1 v1358 v1377 v1382 v1386 v1387
  let ⟨v1450, v1469⟩ : Σ' (v1450 : FVec F S1x512 .f32), FVec F S128x512 .bf16 ← k0_part35 i arg2 harg2 arg3 harg3 arg4 harg4 arg5 harg5 arg6 harg6 arg7 harg7 arg8 harg8 arg9 harg9 arg10 harg10 arg11 harg11 v1419 v1427 v1428
  let v1471 : Vec F S1x512 .f32 ← Prog.lift (.load arg7 (Rect.unit (s := S24x512) ![23, 0] S1x512.size inb_S24x512_S1x512_23_0).toLoadRect (View.loadsAt_vmem h_S1x512))
  Prog.lift (.store arg7 (Rect.unit (s := S24x512) ![23, 0] S1x512.size inb_S24x512_S1x512_23_0) v1450 Finset.univ (View.stores_vmem_bits_univ h_S1x512 rfl) (.inl rfl))
  let v1476 : Vec F S512x128 .bf16 ← Prog.lift (.load arg10 (Rect.unit (s := S3584x3072) (k0_off24 i) S512x128.size (k0_off24_inb i k0_h1)).toLoadRect (View.loadsAt_vmem h_S512x128))
  Prog.lift (.store arg10 (Rect.unit (s := S3584x3072) (k0_off24 i) S512x128.size (k0_off24_inb i k0_h1)) (k0_pay1 v1469) Finset.univ (View.stores_vmem h_S512x128 (harg10.storeExact_slice rfl _ (k0_off24_packedbf16 i k0_h1)) (fun _ => rfl)) (.inl rfl))
  k

/-- The body's second branch: the block of `dy` quantised, 24 groups of 128 rows. -/
def stepY (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole)
    (k : Prog (TpuEff nD τ sig (Elt F) Λ₀ .tc) PUnit) :
    Prog (TpuEff nD τ sig (Elt F) Λ₀ .tc) PUnit := do
  let ⟨v1358, v1377⟩ : Σ' (v1358 : FVec F S1x512 .f32), FVec F S128x512 .bf16 ← k0_part69 i arg2 harg2 arg3 harg3 arg4 harg4 arg5 harg5 arg6 harg6 arg7 harg7 arg8 harg8 arg9 harg9 arg10 harg10 arg11 harg11
  let v1379 : Vec F S1x512 .f32 ← Prog.lift (.load arg9 (Rect.unit (s := S24x512) ![23, 0] S1x512.size inb_S24x512_S1x512_23_0).toLoadRect (View.loadsAt_vmem h_S1x512))
  Prog.lift (.store arg9 (Rect.unit (s := S24x512) ![23, 0] S1x512.size inb_S24x512_S1x512_23_0) v1358 Finset.univ (View.stores_vmem_bits_univ h_S1x512 rfl) (.inl rfl))
  let v1380 : Vec F S128x512 .bf16 ← Prog.lift (.load arg11 (Rect.unit (s := S3072x512) ![2944, 0] S128x512.size inb_S3072x512_S128x512_2944_0).toLoadRect (View.loadsAt_vmem h_S128x512))
  Prog.lift (.store arg11 (Rect.unit (s := S3072x512) ![2944, 0] S128x512.size inb_S3072x512_S128x512_2944_0) (k0_pay2 v1377) Finset.univ (View.stores_vmem h_S128x512 (harg11.storeExact_slice rfl _ packedbf16_S3072x512_S128x512_2944_0) (fun _ => rfl)) (.inl rfl))
  k

/-- The body's last stretch: the main gradient plus the product of the two dequantised blocks. -/
def stepDot (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole) :
    Prog (TpuEff nD τ sig (Elt F) Λ₀ .tc) PUnit := do
  let v9 : Vec F S512x3072 .bf16 ← Prog.lift (.load arg10 (Rect.unit (s := S3584x3072) (k0_off25 i) S512x3072.size (k0_off25_inb i)).toLoadRect (View.loadsAt_vmem h_S512x3072))
  let v10 : Vec F S512x512 .f32 ← Prog.lift (.load arg4 (Rect.unit (s := S512x512) ![0, 0] S512x512.size inb_S512x512_S512x512_0_0).toLoadRect (View.loadsAt_vmem h_S512x512))
  let v11 : Vec F S3072x512 .bf16 ← Prog.lift (.load arg11 (Rect.unit (s := S3072x512) ![0, 0] S3072x512.size inb_S3072x512_S3072x512_0_0).toLoadRect (View.loadsAt_vmem h_S3072x512))
  let v14 : Vec F S512x512 .f32 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) (k0_pay3 v9 v10 v11) Finset.univ (View.stores_vmem_bits_univ h_S512x512 rfl) (.inl rfl))
  pure ⟨⟩

set_option maxRecDepth 65536 in
/-- The body is its three steps in order. -/
theorem body_eq (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole) :
    cc0_wgrad_fp8 (F := F) i arg2 harg2 arg3 harg3 arg4 harg4 arg5 harg5 arg6 harg6 arg7 harg7 arg8 harg8 arg9 harg9 arg10 harg10 arg11 harg11 =
      if h : k0_cond1 i = 1#1 then
        stepX i arg2 harg2 arg3 harg3 arg4 harg4 arg5 harg5 arg6 harg6 arg7 harg7 arg8 harg8 arg9 harg9 arg10 harg10 arg11 harg11 h
          (if h : k0_cond2 i = 1#1 then stepY i arg2 harg2 arg3 harg3 arg4 harg4 arg5 harg5 arg6 harg6 arg7 harg7 arg8 harg8 arg9 harg9 arg10 harg10 arg11 harg11 (stepDot i arg2 harg2 arg3 harg3 arg4 harg4 arg5 harg5 arg6 harg6 arg7 harg7 arg8 harg8 arg9 harg9 arg10 harg10 arg11 harg11) else stepDot i arg2 harg2 arg3 harg3 arg4 harg4 arg5 harg5 arg6 harg6 arg7 harg7 arg8 harg8 arg9 harg9 arg10 harg10 arg11 harg11)
      else if h : k0_cond2 i = 1#1 then stepY i arg2 harg2 arg3 harg3 arg4 harg4 arg5 harg5 arg6 harg6 arg7 harg7 arg8 harg8 arg9 harg9 arg10 harg10 arg11 harg11 (stepDot i arg2 harg2 arg3 harg3 arg4 harg4 arg5 harg5 arg6 harg6 arg7 harg7 arg8 harg8 arg9 harg9 arg10 harg10 arg11 harg11) else stepDot i arg2 harg2 arg3 harg3 arg4 harg4 arg5 harg5 arg6 harg6 arg7 harg7 arg8 harg8 arg9 harg9 arg10 harg10 arg11 harg11 := by
  rw [cc0_wgrad_fp8_eq_skeleton]; unfold cc0_wgrad_fp8_skel
  by_cases h1 : k0_cond1 i = 1#1
  · rw [dif_pos h1, dif_pos h1]; rfl
  · rw [dif_neg h1, dif_neg h1]; rfl

end Cert.KernelIdeal.Hand

end
-- ==== Proof.Body.RunX.lean ====
/- The run of the body's first step: a block of `x` quantised. -/
module

public import proofs.«01_k».proof.Proof.Body.Group
public import proofs.«01_k».proof.Proof.Body.Steps
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1724000 in
/-- From the block `x0` the first step leaves its codes, its scales, and the scratch of `x` with the block's rows replaced. -/
theorem stepX_run (c : Dev nD) (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole) (h1 : k0_cond1 i = 1#1)
    (k : Prog (TpuEff nD τ sig (Elt F) Λ₀ .tc) PUnit) (x0 : Vec F S3072x512 .bf16) (d10 : Vec F S3584x3072 .bf16) :
      ∀ (E : Set ℕ) (K : PUnit → sProp 𝕄),
        iprop(owns (c : Thread nD τ) arg2 fullShare x0 ∗ (∃ d, owns (c : Thread nD τ) arg6 fullShare d) ∗ (∃ d, owns (c : Thread nD τ) arg7 fullShare d) ∗ owns (c : Thread nD τ) arg10 fullShare d10
            ∗ (iprop(owns (c : Thread nD τ) arg2 fullShare x0 ∗ owns (c : Thread nD τ) arg6 fullShare (codesX x0) ∗ owns (c : Thread nD τ) arg7 fullShare (scalesX x0) ∗ owns (c : Thread nD τ) arg10 fullShare (putRows (i 1).val (deqsX x0) d10))
                -∗ wp frame (wpE (defs₀ (F := F)) Variants.none c none) E k K))
          ⊢ wp frame (wpE (defs₀ (F := F)) Variants.none c none) E (stepX i arg2 harg2 arg3 harg3 arg4 harg4 arg5 harg5 arg6 harg6 arg7 harg7 arg8 harg8 arg9 harg9 arg10 harg10 arg11 harg11 h1 k) K := by
    intro E K
    unfold stepX
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%d4, %f4, -, H4⟩, ⟨%d5, %f5, -, H5⟩, ⟨%fs0, %hs0, HS0⟩, Hk⟩
    subst hf0 hs0
    sl_exec
    iapply Hk
    isplitl [H0]
    · iexists _; isplitr; · ipureintro; rfl
      iexact H0
    isplitl [H4]
    · iexists _; isplitr; swap; · iexact H4
      ipureintro
      funext y
      refine View.read_writes_apply_of_pieces _ _ (stack (F := F) (e := .fp8e4m3) (fun g => codeX (group (arg2.view.read (Elt F) f0) g))) _ (View.PiecesOf.mem ?_) y ?_
      on_goal 2 => exact View.cover_of_tiled (s := S3072x512) _ S128x512.size rfl y
      exact ⟨fun x => stack_emb (fun g => codeX (group (arg2.view.read (Elt F) f0) g)) 23 rfl inb_S3072x512_S128x512_2944_0 _ rfl x,
        fun x => stack_emb (fun g => codeX (group (arg2.view.read (Elt F) f0) g)) 22 rfl inb_S3072x512_S128x512_2816_0 _ rfl x,
        fun x => stack_emb (fun g => codeX (group (arg2.view.read (Elt F) f0) g)) 21 rfl inb_S3072x512_S128x512_2688_0 _ rfl x,
        fun x => stack_emb (fun g => codeX (group (arg2.view.read (Elt F) f0) g)) 20 rfl inb_S3072x512_S128x512_2560_0 _ rfl x,
        fun x => stack_emb (fun g => codeX (group (arg2.view.read (Elt F) f0) g)) 19 rfl inb_S3072x512_S128x512_2432_0 _ rfl x,
        fun x => stack_emb (fun g => codeX (group (arg2.view.read (Elt F) f0) g)) 18 rfl inb_S3072x512_S128x512_2304_0 _ rfl x,
        fun x => stack_emb (fun g => codeX (group (arg2.view.read (Elt F) f0) g)) 17 rfl inb_S3072x512_S128x512_2176_0 _ rfl x,
        fun x => stack_emb (fun g => codeX (group (arg2.view.read (Elt F) f0) g)) 16 rfl inb_S3072x512_S128x512_2048_0 _ rfl x,
        fun x => stack_emb (fun g => codeX (group (arg2.view.read (Elt F) f0) g)) 15 rfl inb_S3072x512_S128x512_1920_0 _ rfl x,
        fun x => stack_emb (fun g => codeX (group (arg2.view.read (Elt F) f0) g)) 14 rfl inb_S3072x512_S128x512_1792_0 _ rfl x,
        fun x => stack_emb (fun g => codeX (group (arg2.view.read (Elt F) f0) g)) 13 rfl inb_S3072x512_S128x512_1664_0 _ rfl x,
        fun x => stack_emb (fun g => codeX (group (arg2.view.read (Elt F) f0) g)) 12 rfl inb_S3072x512_S128x512_1536_0 _ rfl x,
        fun x => stack_emb (fun g => codeX (group (arg2.view.read (Elt F) f0) g)) 11 rfl inb_S3072x512_S128x512_1408_0 _ rfl x,
        fun x => stack_emb (fun g => codeX (group (arg2.view.read (Elt F) f0) g)) 10 rfl inb_S3072x512_S128x512_1280_0 _ rfl x,
        fun x => stack_emb (fun g => codeX (group (arg2.view.read (Elt F) f0) g)) 9 rfl inb_S3072x512_S128x512_1152_0 _ rfl x,
        fun x => stack_emb (fun g => codeX (group (arg2.view.read (Elt F) f0) g)) 8 rfl inb_S3072x512_S128x512_1024_0 _ rfl x,
        fun x => stack_emb (fun g => codeX (group (arg2.view.read (Elt F) f0) g)) 7 rfl inb_S3072x512_S128x512_896_0 _ rfl x,
        fun x => stack_emb (fun g => codeX (group (arg2.view.read (Elt F) f0) g)) 6 rfl inb_S3072x512_S128x512_768_0 _ rfl x,
        fun x => stack_emb (fun g => codeX (group (arg2.view.read (Elt F) f0) g)) 5 rfl inb_S3072x512_S128x512_640_0 _ rfl x,
        fun x => stack_emb (fun g => codeX (group (arg2.view.read (Elt F) f0) g)) 4 rfl inb_S3072x512_S128x512_512_0 _ rfl x,
        fun x => stack_emb (fun g => codeX (group (arg2.view.read (Elt F) f0) g)) 3 rfl inb_S3072x512_S128x512_384_0 _ rfl x,
        fun x => stack_emb (fun g => codeX (group (arg2.view.read (Elt F) f0) g)) 2 rfl inb_S3072x512_S128x512_256_0 _ rfl x,
        fun x => stack_emb (fun g => codeX (group (arg2.view.read (Elt F) f0) g)) 1 rfl inb_S3072x512_S128x512_128_0 _ rfl x,
        fun x => stack_emb (fun g => codeX (group (arg2.view.read (Elt F) f0) g)) 0 rfl inb_S3072x512_S128x512_0_0 _ rfl x, trivial⟩
    isplitl [H5]
    · iexists _; isplitr; swap; · iexact H5
      ipureintro
      funext y
      refine View.read_writes_apply_of_pieces _ _ (stackRows (F := F) (e := .f32) (fun g => scaleX (group (arg2.view.read (Elt F) f0) g))) _ (View.PiecesOf.mem ?_) y ?_
      on_goal 2 => exact View.cover_of_tiled (s := S24x512) _ S1x512.size rfl y
      exact ⟨fun x => stackRows_emb (fun g => scaleX (group (arg2.view.read (Elt F) f0) g)) 23 rfl inb_S24x512_S1x512_23_0 _ rfl x,
        fun x => stackRows_emb (fun g => scaleX (group (arg2.view.read (Elt F) f0) g)) 22 rfl inb_S24x512_S1x512_22_0 _ rfl x,
        fun x => stackRows_emb (fun g => scaleX (group (arg2.view.read (Elt F) f0) g)) 21 rfl inb_S24x512_S1x512_21_0 _ rfl x,
        fun x => stackRows_emb (fun g => scaleX (group (arg2.view.read (Elt F) f0) g)) 20 rfl inb_S24x512_S1x512_20_0 _ rfl x,
        fun x => stackRows_emb (fun g => scaleX (group (arg2.view.read (Elt F) f0) g)) 19 rfl inb_S24x512_S1x512_19_0 _ rfl x,
        fun x => stackRows_emb (fun g => scaleX (group (arg2.view.read (Elt F) f0) g)) 18 rfl inb_S24x512_S1x512_18_0 _ rfl x,
        fun x => stackRows_emb (fun g => scaleX (group (arg2.view.read (Elt F) f0) g)) 17 rfl inb_S24x512_S1x512_17_0 _ rfl x,
        fun x => stackRows_emb (fun g => scaleX (group (arg2.view.read (Elt F) f0) g)) 16 rfl inb_S24x512_S1x512_16_0 _ rfl x,
        fun x => stackRows_emb (fun g => scaleX (group (arg2.view.read (Elt F) f0) g)) 15 rfl inb_S24x512_S1x512_15_0 _ rfl x,
        fun x => stackRows_emb (fun g => scaleX (group (arg2.view.read (Elt F) f0) g)) 14 rfl inb_S24x512_S1x512_14_0 _ rfl x,
        fun x => stackRows_emb (fun g => scaleX (group (arg2.view.read (Elt F) f0) g)) 13 rfl inb_S24x512_S1x512_13_0 _ rfl x,
        fun x => stackRows_emb (fun g => scaleX (group (arg2.view.read (Elt F) f0) g)) 12 rfl inb_S24x512_S1x512_12_0 _ rfl x,
        fun x => stackRows_emb (fun g => scaleX (group (arg2.view.read (Elt F) f0) g)) 11 rfl inb_S24x512_S1x512_11_0 _ rfl x,
        fun x => stackRows_emb (fun g => scaleX (group (arg2.view.read (Elt F) f0) g)) 10 rfl inb_S24x512_S1x512_10_0 _ rfl x,
        fun x => stackRows_emb (fun g => scaleX (group (arg2.view.read (Elt F) f0) g)) 9 rfl inb_S24x512_S1x512_9_0 _ rfl x,
        fun x => stackRows_emb (fun g => scaleX (group (arg2.view.read (Elt F) f0) g)) 8 rfl inb_S24x512_S1x512_8_0 _ rfl x,
        fun x => stackRows_emb (fun g => scaleX (group (arg2.view.read (Elt F) f0) g)) 7 rfl inb_S24x512_S1x512_7_0 _ rfl x,
        fun x => stackRows_emb (fun g => scaleX (group (arg2.view.read (Elt F) f0) g)) 6 rfl inb_S24x512_S1x512_6_0 _ rfl x,
        fun x => stackRows_emb (fun g => scaleX (group (arg2.view.read (Elt F) f0) g)) 5 rfl inb_S24x512_S1x512_5_0 _ rfl x,
        fun x => stackRows_emb (fun g => scaleX (group (arg2.view.read (Elt F) f0) g)) 4 rfl inb_S24x512_S1x512_4_0 _ rfl x,
        fun x => stackRows_emb (fun g => scaleX (group (arg2.view.read (Elt F) f0) g)) 3 rfl inb_S24x512_S1x512_3_0 _ rfl x,
        fun x => stackRows_emb (fun g => scaleX (group (arg2.view.read (Elt F) f0) g)) 2 rfl inb_S24x512_S1x512_2_0 _ rfl x,
        fun x => stackRows_emb (fun g => scaleX (group (arg2.view.read (Elt F) f0) g)) 1 rfl inb_S24x512_S1x512_1_0 _ rfl x,
        fun x => stackRows_emb (fun g => scaleX (group (arg2.view.read (Elt F) f0) g)) 0 rfl inb_S24x512_S1x512_0_0 _ rfl x, trivial⟩
    iexists _; isplitr; swap; · iexact HS0
    ipureintro
    have hk : (i 1).val < 7 := (i 1).isLt
    exact putCols_step _ _ _ _ hk (fun g => deqX (group (arg2.view.read (Elt F) f0) g)) 23 (k0_off24_eq i) _ _ rfl <|
      putCols_step _ _ _ _ hk (fun g => deqX (group (arg2.view.read (Elt F) f0) g)) 22 (k0_off23_eq i) _ _ rfl <|
      putCols_step _ _ _ _ hk (fun g => deqX (group (arg2.view.read (Elt F) f0) g)) 21 (k0_off22_eq i) _ _ rfl <|
      putCols_step _ _ _ _ hk (fun g => deqX (group (arg2.view.read (Elt F) f0) g)) 20 (k0_off21_eq i) _ _ rfl <|
      putCols_step _ _ _ _ hk (fun g => deqX (group (arg2.view.read (Elt F) f0) g)) 19 (k0_off20_eq i) _ _ rfl <|
      putCols_step _ _ _ _ hk (fun g => deqX (group (arg2.view.read (Elt F) f0) g)) 18 (k0_off19_eq i) _ _ rfl <|
      putCols_step _ _ _ _ hk (fun g => deqX (group (arg2.view.read (Elt F) f0) g)) 17 (k0_off18_eq i) _ _ rfl <|
      putCols_step _ _ _ _ hk (fun g => deqX (group (arg2.view.read (Elt F) f0) g)) 16 (k0_off17_eq i) _ _ rfl <|
      putCols_step _ _ _ _ hk (fun g => deqX (group (arg2.view.read (Elt F) f0) g)) 15 (k0_off16_eq i) _ _ rfl <|
      putCols_step _ _ _ _ hk (fun g => deqX (group (arg2.view.read (Elt F) f0) g)) 14 (k0_off15_eq i) _ _ rfl <|
      putCols_step _ _ _ _ hk (fun g => deqX (group (arg2.view.read (Elt F) f0) g)) 13 (k0_off14_eq i) _ _ rfl <|
      putCols_step _ _ _ _ hk (fun g => deqX (group (arg2.view.read (Elt F) f0) g)) 12 (k0_off13_eq i) _ _ rfl <|
      putCols_step _ _ _ _ hk (fun g => deqX (group (arg2.view.read (Elt F) f0) g)) 11 (k0_off12_eq i) _ _ rfl <|
      putCols_step _ _ _ _ hk (fun g => deqX (group (arg2.view.read (Elt F) f0) g)) 10 (k0_off11_eq i) _ _ rfl <|
      putCols_step _ _ _ _ hk (fun g => deqX (group (arg2.view.read (Elt F) f0) g)) 9 (k0_off10_eq i) _ _ rfl <|
      putCols_step _ _ _ _ hk (fun g => deqX (group (arg2.view.read (Elt F) f0) g)) 8 (k0_off9_eq i) _ _ rfl <|
      putCols_step _ _ _ _ hk (fun g => deqX (group (arg2.view.read (Elt F) f0) g)) 7 (k0_off8_eq i) _ _ rfl <|
      putCols_step _ _ _ _ hk (fun g => deqX (group (arg2.view.read (Elt F) f0) g)) 6 (k0_off7_eq i) _ _ rfl <|
      putCols_step _ _ _ _ hk (fun g => deqX (group (arg2.view.read (Elt F) f0) g)) 5 (k0_off6_eq i) _ _ rfl <|
      putCols_step _ _ _ _ hk (fun g => deqX (group (arg2.view.read (Elt F) f0) g)) 4 (k0_off5_eq i) _ _ rfl <|
      putCols_step _ _ _ _ hk (fun g => deqX (group (arg2.view.read (Elt F) f0) g)) 3 (k0_off4_eq i) _ _ rfl <|
      putCols_step _ _ _ _ hk (fun g => deqX (group (arg2.view.read (Elt F) f0) g)) 2 (k0_off3_eq i) _ _ rfl <|
      putCols_step _ _ _ _ hk (fun g => deqX (group (arg2.view.read (Elt F) f0) g)) 1 (k0_off2_eq i) _ _ rfl <|
      putCols_step _ _ _ _ hk (fun g => deqX (group (arg2.view.read (Elt F) f0) g)) 0 (k0_off1_eq i) _ _ rfl <|
      putCols_zero _ _ _

end Cert.KernelIdeal.Hand

end
-- ==== Proof.Body.RunY.lean ====
/- The run of the body's second step: a block of `dy` quantised. -/
module

public import proofs.«01_k».proof.Proof.Body.Group
public import proofs.«01_k».proof.Proof.Body.Steps
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1724000 in
/-- From the block `x1` the second step leaves its codes, its scales, and its dequantised values. -/
theorem stepY_run (c : Dev nD) (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole)
    (k : Prog (TpuEff nD τ sig (Elt F) Λ₀ .tc) PUnit) (x1 : Vec F S3072x512 .bf16) (E : Set ℕ) (K : PUnit → sProp 𝕄) :
    iprop(owns (c : Thread nD τ) arg3 fullShare x1 ∗ (∃ d, owns (c : Thread nD τ) arg8 fullShare d) ∗ (∃ d, owns (c : Thread nD τ) arg9 fullShare d) ∗ (∃ d, owns (c : Thread nD τ) arg11 fullShare d)
        ∗ (iprop(owns (c : Thread nD τ) arg3 fullShare x1 ∗ owns (c : Thread nD τ) arg8 fullShare (codesY x1) ∗ owns (c : Thread nD τ) arg9 fullShare (scalesY x1) ∗ owns (c : Thread nD τ) arg11 fullShare (deqsY x1))
            -∗ wp frame (wpE (defs₀ (F := F)) Variants.none c none) E k K))
      ⊢ wp frame (wpE (defs₀ (F := F)) Variants.none c none) E (stepY i arg2 harg2 arg3 harg3 arg4 harg4 arg5 harg5 arg6 harg6 arg7 harg7 arg8 harg8 arg9 harg9 arg10 harg10 arg11 harg11 k) K := by
  unfold stepY
  simp only [k0_part69_eq_skeleton]; unfold k0_part69_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
  unfold owns
  iintro ⟨⟨%f1, %hf1, H1⟩, ⟨%d6, %f6, -, H6⟩, ⟨%d7, %f7, -, H7⟩, ⟨%ds1, %fs1, -, HS1⟩, Hk⟩
  subst hf1
  sl_exec
  iapply Hk
  isplitl [H1]
  · iexists _; isplitr; · ipureintro; rfl
    iexact H1
  isplitl [H6]
  · iexists _; isplitr; swap; · iexact H6
    ipureintro
    funext y
    refine View.read_writes_apply_of_pieces _ _ (stack (F := F) (e := .fp8e5m2) (fun g => codeY (group (arg3.view.read (Elt F) f1) g))) _ (View.PiecesOf.mem ?_) y ?_
    on_goal 2 => exact View.cover_of_tiled (s := S3072x512) _ S128x512.size rfl y
    exact ⟨fun x => stack_emb (fun g => codeY (group (arg3.view.read (Elt F) f1) g)) 23 rfl inb_S3072x512_S128x512_2944_0 _ rfl x,
        fun x => stack_emb (fun g => codeY (group (arg3.view.read (Elt F) f1) g)) 22 rfl inb_S3072x512_S128x512_2816_0 _ rfl x,
        fun x => stack_emb (fun g => codeY (group (arg3.view.read (Elt F) f1) g)) 21 rfl inb_S3072x512_S128x512_2688_0 _ rfl x,
        fun x => stack_emb (fun g => codeY (group (arg3.view.read (Elt F) f1) g)) 20 rfl inb_S3072x512_S128x512_2560_0 _ rfl x,
        fun x => stack_emb (fun g => codeY (group (arg3.view.read (Elt F) f1) g)) 19 rfl inb_S3072x512_S128x512_2432_0 _ rfl x,
        fun x => stack_emb (fun g => codeY (group (arg3.view.read (Elt F) f1) g)) 18 rfl inb_S3072x512_S128x512_2304_0 _ rfl x,
        fun x => stack_emb (fun g => codeY (group (arg3.view.read (Elt F) f1) g)) 17 rfl inb_S3072x512_S128x512_2176_0 _ rfl x,
        fun x => stack_emb (fun g => codeY (group (arg3.view.read (Elt F) f1) g)) 16 rfl inb_S3072x512_S128x512_2048_0 _ rfl x,
        fun x => stack_emb (fun g => codeY (group (arg3.view.read (Elt F) f1) g)) 15 rfl inb_S3072x512_S128x512_1920_0 _ rfl x,
        fun x => stack_emb (fun g => codeY (group (arg3.view.read (Elt F) f1) g)) 14 rfl inb_S3072x512_S128x512_1792_0 _ rfl x,
        fun x => stack_emb (fun g => codeY (group (arg3.view.read (Elt F) f1) g)) 13 rfl inb_S3072x512_S128x512_1664_0 _ rfl x,
        fun x => stack_emb (fun g => codeY (group (arg3.view.read (Elt F) f1) g)) 12 rfl inb_S3072x512_S128x512_1536_0 _ rfl x,
        fun x => stack_emb (fun g => codeY (group (arg3.view.read (Elt F) f1) g)) 11 rfl inb_S3072x512_S128x512_1408_0 _ rfl x,
        fun x => stack_emb (fun g => codeY (group (arg3.view.read (Elt F) f1) g)) 10 rfl inb_S3072x512_S128x512_1280_0 _ rfl x,
        fun x => stack_emb (fun g => codeY (group (arg3.view.read (Elt F) f1) g)) 9 rfl inb_S3072x512_S128x512_1152_0 _ rfl x,
        fun x => stack_emb (fun g => codeY (group (arg3.view.read (Elt F) f1) g)) 8 rfl inb_S3072x512_S128x512_1024_0 _ rfl x,
        fun x => stack_emb (fun g => codeY (group (arg3.view.read (Elt F) f1) g)) 7 rfl inb_S3072x512_S128x512_896_0 _ rfl x,
        fun x => stack_emb (fun g => codeY (group (arg3.view.read (Elt F) f1) g)) 6 rfl inb_S3072x512_S128x512_768_0 _ rfl x,
        fun x => stack_emb (fun g => codeY (group (arg3.view.read (Elt F) f1) g)) 5 rfl inb_S3072x512_S128x512_640_0 _ rfl x,
        fun x => stack_emb (fun g => codeY (group (arg3.view.read (Elt F) f1) g)) 4 rfl inb_S3072x512_S128x512_512_0 _ rfl x,
        fun x => stack_emb (fun g => codeY (group (arg3.view.read (Elt F) f1) g)) 3 rfl inb_S3072x512_S128x512_384_0 _ rfl x,
        fun x => stack_emb (fun g => codeY (group (arg3.view.read (Elt F) f1) g)) 2 rfl inb_S3072x512_S128x512_256_0 _ rfl x,
        fun x => stack_emb (fun g => codeY (group (arg3.view.read (Elt F) f1) g)) 1 rfl inb_S3072x512_S128x512_128_0 _ rfl x,
        fun x => stack_emb (fun g => codeY (group (arg3.view.read (Elt F) f1) g)) 0 rfl inb_S3072x512_S128x512_0_0 _ rfl x, trivial⟩
  isplitl [H7]
  · iexists _; isplitr; swap; · iexact H7
    ipureintro
    funext y
    refine View.read_writes_apply_of_pieces _ _ (stackRows (F := F) (e := .f32) (fun g => scaleY (group (arg3.view.read (Elt F) f1) g))) _ (View.PiecesOf.mem ?_) y ?_
    on_goal 2 => exact View.cover_of_tiled (s := S24x512) _ S1x512.size rfl y
    exact ⟨fun x => stackRows_emb (fun g => scaleY (group (arg3.view.read (Elt F) f1) g)) 23 rfl inb_S24x512_S1x512_23_0 _ rfl x,
        fun x => stackRows_emb (fun g => scaleY (group (arg3.view.read (Elt F) f1) g)) 22 rfl inb_S24x512_S1x512_22_0 _ rfl x,
        fun x => stackRows_emb (fun g => scaleY (group (arg3.view.read (Elt F) f1) g)) 21 rfl inb_S24x512_S1x512_21_0 _ rfl x,
        fun x => stackRows_emb (fun g => scaleY (group (arg3.view.read (Elt F) f1) g)) 20 rfl inb_S24x512_S1x512_20_0 _ rfl x,
        fun x => stackRows_emb (fun g => scaleY (group (arg3.view.read (Elt F) f1) g)) 19 rfl inb_S24x512_S1x512_19_0 _ rfl x,
        fun x => stackRows_emb (fun g => scaleY (group (arg3.view.read (Elt F) f1) g)) 18 rfl inb_S24x512_S1x512_18_0 _ rfl x,
        fun x => stackRows_emb (fun g => scaleY (group (arg3.view.read (Elt F) f1) g)) 17 rfl inb_S24x512_S1x512_17_0 _ rfl x,
        fun x => stackRows_emb (fun g => scaleY (group (arg3.view.read (Elt F) f1) g)) 16 rfl inb_S24x512_S1x512_16_0 _ rfl x,
        fun x => stackRows_emb (fun g => scaleY (group (arg3.view.read (Elt F) f1) g)) 15 rfl inb_S24x512_S1x512_15_0 _ rfl x,
        fun x => stackRows_emb (fun g => scaleY (group (arg3.view.read (Elt F) f1) g)) 14 rfl inb_S24x512_S1x512_14_0 _ rfl x,
        fun x => stackRows_emb (fun g => scaleY (group (arg3.view.read (Elt F) f1) g)) 13 rfl inb_S24x512_S1x512_13_0 _ rfl x,
        fun x => stackRows_emb (fun g => scaleY (group (arg3.view.read (Elt F) f1) g)) 12 rfl inb_S24x512_S1x512_12_0 _ rfl x,
        fun x => stackRows_emb (fun g => scaleY (group (arg3.view.read (Elt F) f1) g)) 11 rfl inb_S24x512_S1x512_11_0 _ rfl x,
        fun x => stackRows_emb (fun g => scaleY (group (arg3.view.read (Elt F) f1) g)) 10 rfl inb_S24x512_S1x512_10_0 _ rfl x,
        fun x => stackRows_emb (fun g => scaleY (group (arg3.view.read (Elt F) f1) g)) 9 rfl inb_S24x512_S1x512_9_0 _ rfl x,
        fun x => stackRows_emb (fun g => scaleY (group (arg3.view.read (Elt F) f1) g)) 8 rfl inb_S24x512_S1x512_8_0 _ rfl x,
        fun x => stackRows_emb (fun g => scaleY (group (arg3.view.read (Elt F) f1) g)) 7 rfl inb_S24x512_S1x512_7_0 _ rfl x,
        fun x => stackRows_emb (fun g => scaleY (group (arg3.view.read (Elt F) f1) g)) 6 rfl inb_S24x512_S1x512_6_0 _ rfl x,
        fun x => stackRows_emb (fun g => scaleY (group (arg3.view.read (Elt F) f1) g)) 5 rfl inb_S24x512_S1x512_5_0 _ rfl x,
        fun x => stackRows_emb (fun g => scaleY (group (arg3.view.read (Elt F) f1) g)) 4 rfl inb_S24x512_S1x512_4_0 _ rfl x,
        fun x => stackRows_emb (fun g => scaleY (group (arg3.view.read (Elt F) f1) g)) 3 rfl inb_S24x512_S1x512_3_0 _ rfl x,
        fun x => stackRows_emb (fun g => scaleY (group (arg3.view.read (Elt F) f1) g)) 2 rfl inb_S24x512_S1x512_2_0 _ rfl x,
        fun x => stackRows_emb (fun g => scaleY (group (arg3.view.read (Elt F) f1) g)) 1 rfl inb_S24x512_S1x512_1_0 _ rfl x,
        fun x => stackRows_emb (fun g => scaleY (group (arg3.view.read (Elt F) f1) g)) 0 rfl inb_S24x512_S1x512_0_0 _ rfl x, trivial⟩
  · iexists _; isplitr; swap; · iexact HS1
    ipureintro
    funext y
    refine View.read_writes_apply_of_pieces _ _ (stack (F := F) (e := .bf16) (fun g => deqY (group (arg3.view.read (Elt F) f1) g))) _ (View.PiecesOf.mem ?_) y ?_
    on_goal 2 => exact View.cover_of_tiled (s := S3072x512) _ S128x512.size rfl y
    exact ⟨fun x => stack_emb (fun g => deqY (group (arg3.view.read (Elt F) f1) g)) 23 rfl inb_S3072x512_S128x512_2944_0 _ rfl x,
        fun x => stack_emb (fun g => deqY (group (arg3.view.read (Elt F) f1) g)) 22 rfl inb_S3072x512_S128x512_2816_0 _ rfl x,
        fun x => stack_emb (fun g => deqY (group (arg3.view.read (Elt F) f1) g)) 21 rfl inb_S3072x512_S128x512_2688_0 _ rfl x,
        fun x => stack_emb (fun g => deqY (group (arg3.view.read (Elt F) f1) g)) 20 rfl inb_S3072x512_S128x512_2560_0 _ rfl x,
        fun x => stack_emb (fun g => deqY (group (arg3.view.read (Elt F) f1) g)) 19 rfl inb_S3072x512_S128x512_2432_0 _ rfl x,
        fun x => stack_emb (fun g => deqY (group (arg3.view.read (Elt F) f1) g)) 18 rfl inb_S3072x512_S128x512_2304_0 _ rfl x,
        fun x => stack_emb (fun g => deqY (group (arg3.view.read (Elt F) f1) g)) 17 rfl inb_S3072x512_S128x512_2176_0 _ rfl x,
        fun x => stack_emb (fun g => deqY (group (arg3.view.read (Elt F) f1) g)) 16 rfl inb_S3072x512_S128x512_2048_0 _ rfl x,
        fun x => stack_emb (fun g => deqY (group (arg3.view.read (Elt F) f1) g)) 15 rfl inb_S3072x512_S128x512_1920_0 _ rfl x,
        fun x => stack_emb (fun g => deqY (group (arg3.view.read (Elt F) f1) g)) 14 rfl inb_S3072x512_S128x512_1792_0 _ rfl x,
        fun x => stack_emb (fun g => deqY (group (arg3.view.read (Elt F) f1) g)) 13 rfl inb_S3072x512_S128x512_1664_0 _ rfl x,
        fun x => stack_emb (fun g => deqY (group (arg3.view.read (Elt F) f1) g)) 12 rfl inb_S3072x512_S128x512_1536_0 _ rfl x,
        fun x => stack_emb (fun g => deqY (group (arg3.view.read (Elt F) f1) g)) 11 rfl inb_S3072x512_S128x512_1408_0 _ rfl x,
        fun x => stack_emb (fun g => deqY (group (arg3.view.read (Elt F) f1) g)) 10 rfl inb_S3072x512_S128x512_1280_0 _ rfl x,
        fun x => stack_emb (fun g => deqY (group (arg3.view.read (Elt F) f1) g)) 9 rfl inb_S3072x512_S128x512_1152_0 _ rfl x,
        fun x => stack_emb (fun g => deqY (group (arg3.view.read (Elt F) f1) g)) 8 rfl inb_S3072x512_S128x512_1024_0 _ rfl x,
        fun x => stack_emb (fun g => deqY (group (arg3.view.read (Elt F) f1) g)) 7 rfl inb_S3072x512_S128x512_896_0 _ rfl x,
        fun x => stack_emb (fun g => deqY (group (arg3.view.read (Elt F) f1) g)) 6 rfl inb_S3072x512_S128x512_768_0 _ rfl x,
        fun x => stack_emb (fun g => deqY (group (arg3.view.read (Elt F) f1) g)) 5 rfl inb_S3072x512_S128x512_640_0 _ rfl x,
        fun x => stack_emb (fun g => deqY (group (arg3.view.read (Elt F) f1) g)) 4 rfl inb_S3072x512_S128x512_512_0 _ rfl x,
        fun x => stack_emb (fun g => deqY (group (arg3.view.read (Elt F) f1) g)) 3 rfl inb_S3072x512_S128x512_384_0 _ rfl x,
        fun x => stack_emb (fun g => deqY (group (arg3.view.read (Elt F) f1) g)) 2 rfl inb_S3072x512_S128x512_256_0 _ rfl x,
        fun x => stack_emb (fun g => deqY (group (arg3.view.read (Elt F) f1) g)) 1 rfl inb_S3072x512_S128x512_128_0 _ rfl x,
        fun x => stack_emb (fun g => deqY (group (arg3.view.read (Elt F) f1) g)) 0 rfl inb_S3072x512_S128x512_0_0 _ rfl x, trivial⟩

end Cert.KernelIdeal.Hand

end
-- ==== Proof.Body.RunDot.lean ====
/- The run of the body's last step: the product of the dequantised blocks added to the main gradient. -/
module

public import proofs.«01_k».proof.Proof.Body.Group
public import proofs.«01_k».proof.Proof.Body.Steps
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Rows `512 k … 512 k + 511` of the scratch of `x`. -/
def takeRows (k : ℕ) (hk : k < 7) (d : Vec F S3584x3072 .bf16) : Vec F S512x3072 .bf16 := fun y =>
  d (ix2 ⟨512 * k + (y 0).val, by have : (y 0).val < 512 := (y 0).isLt; omega⟩ (y 1))

/-- The load of the scratch's rows of the point's block is `takeRows`. -/
theorem ld_takeRows (i : grid0.Coords) (d : Vec F S3584x3072 .bf16) {inb} :
    View.ld d (Rect.unit (s := S3584x3072) (k0_off25 i) S512x3072.size inb) = takeRows (i 1).val (i 1).isLt d := by
  revert inb; rw [k0_off25_eq]; intro inb
  refine funext fun y => congrArg d (funext fun a => Fin.ext ?_)
  match a with
  | 0 => show 512 * (i 1).val + 1 * (y 0).val = 512 * (i 1).val + (y 0).val; omega
  | 1 => show 0 + 1 * (y 1).val = (y 1).val; omega

/-- Rows just replaced read as what replaced them. -/
theorem takeRows_putRows (k : ℕ) (hk : k < 7) (G : Vec F S512x3072 .bf16) (d : Vec F S3584x3072 .bf16) : takeRows k hk (putRows k G d) = G := by
  funext y
  have h0 : (y 0).val < 512 := (y 0).isLt
  have h1 : (y 1).val < 3072 := (y 1).isLt
  have e0 : ∀ h, ((ix2 (n0 := 3584) (n1 := 3072) ⟨512 * k + (y 0).val, h⟩ (y 1)) 0).val = 512 * k + (y 0).val := fun _ => rfl
  have e1 : ∀ h, ((ix2 (n0 := 3584) (n1 := 3072) ⟨512 * k + (y 0).val, h⟩ (y 1)) 1).val = (y 1).val := fun _ => rfl
  rw [takeRows, putRows, putCols, dif_pos ⟨by rw [e0]; omega, by rw [e0]; omega, by rw [e1]; omega⟩]
  refine congrArg G (funext fun a => Fin.ext ?_)
  match a with
  | 0 => show 512 * k + (y 0).val - 512 * k = (y 0).val; omega
  | 1 => rfl

/-- Rows of another block are untouched. -/
theorem takeRows_putRows_of_ne (k k' : ℕ) (hk : k < 7) (hne : k ≠ k') (G : Vec F S512x3072 .bf16) (d : Vec F S3584x3072 .bf16) :
    takeRows k hk (putRows k' G d) = takeRows k hk d := by
  funext y
  have h0 : (y 0).val < 512 := (y 0).isLt
  have e0 : ∀ h, ((ix2 (n0 := 3584) (n1 := 3072) ⟨512 * k + (y 0).val, h⟩ (y 1)) 0).val = 512 * k + (y 0).val := fun _ => rfl
  rw [takeRows, putRows, putCols, dif_neg (by rw [e0]; omega), takeRows]

set_option maxHeartbeats 1724000 in
/-- The last step leaves in the result's block the main gradient's plus the product of the scratches' blocks. -/
theorem stepDot_run (c : Dev nD) (i : grid0.Coords) (arg2 : Memref sig .tc .vmem S3072x512 .bf16) (harg2 : arg2.IsWhole) (arg3 : Memref sig .tc .vmem S3072x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S3072x512 .fp8e4m3) (harg6 : arg6.IsWhole) (arg7 : Memref sig .tc .vmem S24x512 .f32) (harg7 : arg7.IsWhole) (arg8 : Memref sig .tc .vmem S3072x512 .fp8e5m2) (harg8 : arg8.IsWhole) (arg9 : Memref sig .tc .vmem S24x512 .f32) (harg9 : arg9.IsWhole) (arg10 : Memref sig .tc .vmem S3584x3072 .bf16) (harg10 : arg10.IsWhole) (arg11 : Memref sig .tc .vmem S3072x512 .bf16) (harg11 : arg11.IsWhole) (x2 : Vec F S512x512 .f32) (d10 : Vec F S3584x3072 .bf16) (d11 : Vec F S3072x512 .bf16)
    (E : Set ℕ) (K : PUnit → sProp 𝕄) :
    iprop(owns (c : Thread nD τ) arg4 fullShare x2 ∗ (∃ d, owns (c : Thread nD τ) arg5 fullShare d) ∗ owns (c : Thread nD τ) arg10 fullShare d10 ∗ owns (c : Thread nD τ) arg11 fullShare d11
        ∗ (iprop(owns (c : Thread nD τ) arg4 fullShare x2 ∗ owns (c : Thread nD τ) arg5 fullShare (k0_pay3 (takeRows (i 1).val (i 1).isLt d10) x2 d11) ∗ owns (c : Thread nD τ) arg10 fullShare d10 ∗ owns (c : Thread nD τ) arg11 fullShare d11)
            -∗ K ⟨⟩))
      ⊢ wp frame (wpE (defs₀ (F := F)) Variants.none c none) E (stepDot i arg2 harg2 arg3 harg3 arg4 harg4 arg5 harg5 arg6 harg6 arg7 harg7 arg8 harg8 arg9 harg9 arg10 harg10 arg11 harg11) K := by
  unfold stepDot
  unfold owns
  iintro ⟨⟨%f2, %hf2, H2⟩, ⟨%d3, %f3, -, H3⟩, ⟨%fs0, %hs0, HS0⟩, ⟨%fs1, %hs1, HS1⟩, Hk⟩
  subst hf2 hs0 hs1
  sl_exec
  sl_step
  iapply Hk
  isplitl [H2]
  · iexists _; isplitr; · ipureintro; rfl
    iexact H2
  isplitl [H3]
  · iexists _; isplitr; swap; · iexact H3
    ipureintro
    have hz : (![0, 0] : Fin 2 → ℕ) = fun _ => 0 := by decide
    rw [View.read_writes_full]
    exact congr (congr (congrArg k0_pay3 (ld_takeRows i (arg10.view.read (Elt F) fs0)))
      (View.ld_unit_zero hz inb_S512x512_S512x512_0_0 (arg4.view.read (Elt F) f2)))
      (View.ld_unit_zero hz inb_S3072x512_S3072x512_0_0 (arg11.view.read (Elt F) fs1))
  isplitl [HS0]
  · iexists _; isplitr; · ipureintro; rfl
    iexact HS0
  · iexists _; isplitr; · ipureintro; rfl
    iexact HS1

end Cert.KernelIdeal.Hand

end
-- ==== Proof.Body.Blocks.lean ====
/- The blocks the windows stage at each grid point, as column blocks and tiles of the arrays. -/
module

public import proofs.«01_k».proof.Proof.Body.Group
public import Idealize.ShloMosaic.Lib.Pipeline.ReadBack
public import Idealize.ShloMosaic.Lib.VecWindow
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Columns `512 k … 512 k + 511` of `x`. -/
def xCols {e : EltTy} (X : Vec F S3072x3584 e) (k : Fin 7) : Vec F S3072x512 e := fun y =>
  X (ix2 (y 0) ⟨512 * k.val + (y 1).val, by have : (y 1).val < 512 := (y 1).isLt; omega⟩)

/-- Columns `512 j … 512 j + 511` of `dy`. -/
def yCols {e : EltTy} (Y : Vec F S3072x7168 e) (j : Fin 14) : Vec F S3072x512 e := fun y =>
  Y (ix2 (y 0) ⟨512 * j.val + (y 1).val, by have : (y 1).val < 512 := (y 1).isLt; omega⟩)

/-- The tile of 512 rows by 512 columns at block row `k`, block column `j`. -/
def tile (M : Vec F S3584x7168 .f32) (k : Fin 7) (j : Fin 14) : Vec F S512x512 .f32 := fun y =>
  M (ix2 ⟨512 * k.val + (y 0).val, by have : (y 0).val < 512 := (y 0).isLt; omega⟩ ⟨512 * j.val + (y 1).val, by have : (y 1).val < 512 := (y 1).isLt; omega⟩)

theorem lt98 (t : Fin cfg0.N) : t.val < 98 := Nat.lt_of_lt_of_eq t.isLt N_0

/-- The block of `x` staged at a point: the point's own in the first seven, the last one afterwards. -/
def xAt (t : Fin cfg0.N) : Fin 7 := ⟨min t.val 6, by omega⟩
/-- The block row of a point's tile. -/
def iAt (t : Fin cfg0.N) : Fin 7 := ⟨t.val % 7, by omega⟩
/-- The block of `dy` of a point. -/
def yAt (t : Fin cfg0.N) : Fin 14 := ⟨t.val / 7, by have := lt98 t; omega⟩

theorem index0_0 : ∀ t : Fin cfg0.N, win0_0.index t = ![0, (xAt t).val] := (by decide +kernel : ∀ t : Fin grid0.N, _)
theorem index0_1 : ∀ t : Fin cfg0.N, win0_1.index t = ![0, (yAt t).val] := (by decide +kernel : ∀ t : Fin grid0.N, _)
theorem index0_2 : ∀ t : Fin cfg0.N, win0_2.index t = ![(iAt t).val, (yAt t).val] := (by decide +kernel : ∀ t : Fin grid0.N, _)
theorem index0_3 : ∀ t : Fin cfg0.N, win0_3.index t = ![(iAt t).val, (yAt t).val] := (by decide +kernel : ∀ t : Fin grid0.N, _)
theorem index0_4 : ∀ t : Fin cfg0.N, win0_4.index t = ![0, (xAt t).val] := (by decide +kernel : ∀ t : Fin grid0.N, _)
theorem index0_5 : ∀ t : Fin cfg0.N, win0_5.index t = ![0, (xAt t).val] := (by decide +kernel : ∀ t : Fin grid0.N, _)
theorem index0_6 : ∀ t : Fin cfg0.N, win0_6.index t = ![0, (yAt t).val] := (by decide +kernel : ∀ t : Fin grid0.N, _)
theorem index0_7 : ∀ t : Fin cfg0.N, win0_7.index t = ![0, (yAt t).val] := (by decide +kernel : ∀ t : Fin grid0.N, _)

/-- The block of `x` a point stages. -/
theorem iblk0_0 (c : Dev nD) (t : Fin cfg0.N) : iblk m c 0 t = xCols (V m c main_v0) (xAt t) := by
  funext y
  show V m c main_v0 ((win0_0.blk t).view.emb y) = V m c main_v0 _
  refine congrArg _ (funext fun a => Fin.ext ?_)
  match a with
  | 0 => blk_simp [index0_0]
  | 1 => blk_simp [index0_0]; show (xAt t).val * 512 + (y 1).val = 512 * (xAt t).val + (y 1).val; omega

/-- The block of `dy` a point stages. -/
theorem iblk0_1 (c : Dev nD) (t : Fin cfg0.N) : iblk m c 1 t = yCols (V m c main_v1) (yAt t) := by
  funext y
  show V m c main_v1 ((win0_1.blk t).view.emb y) = V m c main_v1 _
  refine congrArg _ (funext fun a => Fin.ext ?_)
  match a with
  | 0 => blk_simp [index0_1]
  | 1 => blk_simp [index0_1]; show (yAt t).val * 512 + (y 1).val = 512 * (yAt t).val + (y 1).val; omega

/-- The tile of the main gradient a point stages. -/
theorem iblk0_2 (c : Dev nD) (t : Fin cfg0.N) : iblk m c 2 t = tile (V m c main_arg2) (iAt t) (yAt t) := by
  funext y
  show V m c main_arg2 ((win0_2.blk t).view.emb y) = V m c main_arg2 _
  refine congrArg _ (funext fun a => Fin.ext ?_)
  match a with
  | 0 => blk_simp [index0_2]; show (iAt t).val * 512 + (y 0).val = 512 * (iAt t).val + (y 0).val; omega
  | 1 => blk_simp [index0_2]; show (yAt t).val * 512 + (y 1).val = 512 * (yAt t).val + (y 1).val; omega

end Cert.KernelIdeal.Hand

end
-- ==== Proof.Body.Data.lean ====
/- What the kernel's buffers hold at each grid point, and the proof that the body keeps it so. -/
module

public import proofs.«01_k».proof.Proof.Body.RunX
public import proofs.«01_k».proof.Proof.Body.RunY
public import proofs.«01_k».proof.Proof.Body.RunDot
public import proofs.«01_k».proof.Proof.Body.Blocks
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x` with number `k`, and the block of `dy` a point works on. -/
def xB (c : Dev nD) (k : Fin 7) : Vec F S3072x512 .bf16 := xCols (V m c main_v0) k
def yB (c : Dev nD) (t : Fin cfg0.N) : Vec F S3072x512 .bf16 := yCols (V m c main_v1) (yAt t)

/-- What the scratches hold before point `n`: the rows of the blocks of `x` met so far are those blocks dequantised, and,
    within a column of the grid, the other scratch holds the column's block of `dy` dequantised. -/
def Held (c : Dev nD) (n : ℕ) (d0 : Vec F S3584x3072 .bf16) (d1 : Vec F S3072x512 .bf16) : Prop :=
  (∀ k : Fin 7, k.val < n → takeRows k.val k.isLt d0 = deqsX (xB m c k))
    ∧ (∀ t : Fin cfg0.N, t.val = n → n % 7 ≠ 0 → d1 = deqsY (yB m c t))

/-- The invariant carried from point to point: both scratches, held as `Held` says, and the generator register. -/
def PhiS (c : Dev nD) (n : ℕ) : sProp 𝕄 :=
  iprop((∃ d0 d1, ⌜Held m c n d0 d1⌝ ∗ owns (c : Thread nD τ) scM0_0 fullShare d0 ∗ owns (c : Thread nD τ) scM0_1 fullShare d1) ∗ (∃ r, prngReg c r))

/-- What a point leaves in the result's block. -/
def outAt (c : Dev nD) (t : Fin cfg0.N) : Vec F S512x512 .f32 :=
  k0_pay3 (deqsX (xB m c (iAt t))) (tile (V m c main_arg2) (iAt t) (yAt t)) (deqsY (yB m c t))

/-- The proof data: the inputs' blocks stay, each output's buffer holds what the body last left there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => codesX (xB m c (xAt t))
    | ⟨5, _⟩ => scalesX (xB m c (xAt t))
    | ⟨6, _⟩ => codesY (yB m c t)
    | ⟨7, _⟩ => scalesY (yB m c t)
  Φ n := PhiS m c n.val
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem after0_4 (c : Dev nD) (t : Fin cfg0.N) : (dats m 0 c).after 4 t = codesX (xB m c (xAt t)) := by dsimp only [dats]
theorem after0_5 (c : Dev nD) (t : Fin cfg0.N) : (dats m 0 c).after 5 t = scalesX (xB m c (xAt t)) := by dsimp only [dats]
theorem after0_6 (c : Dev nD) (t : Fin cfg0.N) : (dats m 0 c).after 6 t = codesY (yB m c t) := by dsimp only [dats]
theorem after0_7 (c : Dev nD) (t : Fin cfg0.N) : (dats m 0 c).after 7 t = scalesY (yB m c t) := by dsimp only [dats]

/-- Each input's current staging buffer holds its block at every point. -/
theorem before0_0 (c : Dev nD) (t : Fin cfg0.N) (d) : (dats m 0 c).before 0 t d = xB m c (xAt t) :=
  (before0_0_of m (dats m 0 c) (A_eq m c 0) (after0_0 m c) t d).trans (iblk0_0 m c t)
theorem before0_1 (c : Dev nD) (t : Fin cfg0.N) (d) : (dats m 0 c).before 1 t d = yB m c t :=
  (before0_1_of m (dats m 0 c) (A_eq m c 1) (after0_1 m c) t d).trans (iblk0_1 m c t)
theorem before0_2 (c : Dev nD) (t : Fin cfg0.N) (d) : (dats m 0 c).before 2 t d = tile (V m c main_arg2) (iAt t) (yAt t) :=
  (before0_2_of m (dats m 0 c) (A_eq m c 2) (after0_2 m c) t d).trans (iblk0_2 m c t)

/-- The point before. -/
abbrev prev (t : Fin cfg0.N) : Fin cfg0.N := ⟨t.val - 1, Nat.lt_of_le_of_lt (Nat.sub_le _ _) t.isLt⟩

/-- Past the first seven points the blocks written for `x` are not written back before the last point. -/
theorem noflush0_4 : ∀ t : Fin cfg0.N, ¬t.val < 7 → (cfg0.win 4).flush (prev t) = false := (by decide +kernel : ∀ t : Fin grid0.N, ¬t.val < 7 → win0_4.flush (prev t) = false)
theorem noflush0_5 : ∀ t : Fin cfg0.N, ¬t.val < 7 → (cfg0.win 5).flush (prev t) = false := (by decide +kernel : ∀ t : Fin grid0.N, ¬t.val < 7 → win0_5.flush (prev t) = false)
theorem noflush0_6 (t : Fin cfg0.N) (h : ¬t.val % 7 = 0) : (cfg0.win 6).flush (prev t) = false :=
  Bool.eq_false_iff.mpr fun hf => by have h1 := (flush0_6 (prev t)).mp hf; have h2 : (prev t).val = t.val - 1 := rfl; omega
theorem noflush0_7 (t : Fin cfg0.N) (h : ¬t.val % 7 = 0) : (cfg0.win 7).flush (prev t) = false :=
  Bool.eq_false_iff.mpr fun hf => by have h1 := (flush0_7 (prev t)).mp hf; have h2 : (prev t).val = t.val - 1 := rfl; omega

theorem xAt_prev (t : Fin cfg0.N) (h : ¬t.val < 7) : xAt (prev t) = xAt t := Fin.ext (by show min (t.val - 1) 6 = min t.val 6; omega)
theorem yB_prev (c : Dev nD) (t : Fin cfg0.N) (h : ¬t.val % 7 = 0) : yB m c (prev t) = yB m c t :=
  congrArg (yCols (V m c main_v1)) (Fin.ext (by show (t.val - 1) / 7 = t.val / 7; omega))

theorem idle0_4 (t : Fin cfg0.N) (h : ¬cond0_0 (grid0.coords t)) : cfg0.idle 4 (grid0.coords t) = true := by
  show (!(k0_cond1 (grid0.coords t) == 1#1)) = true; simpa using h
theorem idle0_5 (t : Fin cfg0.N) (h : ¬cond0_0 (grid0.coords t)) : cfg0.idle 5 (grid0.coords t) = true := idle0_4 t h
theorem idle0_6 (t : Fin cfg0.N) (h : ¬cond0_1 (grid0.coords t)) : cfg0.idle 6 (grid0.coords t) = true := by
  show (!(k0_cond2 (grid0.coords t) == 1#1)) = true; simpa using h
theorem idle0_7 (t : Fin cfg0.N) (h : ¬cond0_1 (grid0.coords t)) : cfg0.idle 7 (grid0.coords t) = true := idle0_6 t h
theorem live0_4 (t : Fin cfg0.N) (h : cond0_0 (grid0.coords t)) : cfg0.idle 4 (grid0.coords t) = false := by
  show (!(k0_cond1 (grid0.coords t) == 1#1)) = false; simpa using h
theorem live0_5 (t : Fin cfg0.N) (h : cond0_0 (grid0.coords t)) : cfg0.idle 5 (grid0.coords t) = false := live0_4 t h
theorem live0_6 (t : Fin cfg0.N) (h : cond0_1 (grid0.coords t)) : cfg0.idle 6 (grid0.coords t) = false := by
  show (!(k0_cond2 (grid0.coords t) == 1#1)) = false; simpa using h
theorem live0_7 (t : Fin cfg0.N) (h : cond0_1 (grid0.coords t)) : cfg0.idle 7 (grid0.coords t) = false := live0_6 t h

/-- An output buffer holds at a point that does not touch it what the points before left there, which is what that
    point's own value of it is. -/
theorem before_idle (c : Dev nD) (w : Fin cfg0.W) (hw : (cfg0.win w).isOut = true) (hclip : ∀ (i : cfg0.grid.Coords) a, (cfg0.win w).clip i a = none)
    (h : ∀ t : Fin cfg0.N, cfg0.idle w (cfg0.grid.coords t) = true →
      t.val ≠ 0 ∧ (cfg0.win w).flush (prev t) = false ∧ (dats m 0 c).after w (prev t) = (dats m 0 c).after w t) (d) :
    ∀ (n : ℕ) (t : Fin cfg0.N), t.val = n → cfg0.idle w (cfg0.grid.coords t) = true → (dats m 0 c).before w t d = (dats m 0 c).after w t := by
  intro n
  induction n using Nat.strong_induction_on with
  | _ n ih =>
    intro t ht hi
    obtain ⟨h0, hf, ha⟩ := h t hi
    rw [(dats m 0 c).before_of_pos w t h0 ((cfg0.win w).fetch_out hw t), hf, if_neg Bool.false_ne_true]
    unfold Dat.left
    cases hp : cfg0.idle w (cfg0.grid.coords (prev t)) with
    | true => exact (ih (t.val - 1) (by omega) (prev t) rfl hp).trans ha
    | false =>
      show (dats m 0 c).kept w (prev t) d = _
      unfold Dat.kept
      rw [Pipeline.fill_of_clip_none w _ (hclip _) d ((dats m 0 c).after w (prev t)), Window.fill_cut]
      exact ha

/-- So such a buffer is handed back as the proof data says, whether or not the point writes it back. -/
theorem leaves_idle (c : Dev nD) (w : Fin cfg0.W) (t : Fin cfg0.N) (hi : cfg0.idle w (cfg0.grid.coords t) = true)
    (hb : ∀ d, (dats m 0 c).before w t d = (dats m 0 c).after w t) (d) :
    owns (c : Thread nD τ) ((cfg0.win w).stage (cfg0.slots t w)) fullShare ((dats m 0 c).before w t d) ⊢ (dats m 0 c).leavesExact w t := by
  unfold Dat.leavesExact
  rw [hi]
  cases (cfg0.win w).flush t with
  | true => show _ ⊢ owns _ _ _ ((dats m 0 c).after w t); rw [hb]
  | false =>
    show _ ⊢ iprop(∃ d, owns (c : Thread nD τ) ((cfg0.win w).stage (cfg0.slots t w)) fullShare ((dats m 0 c).before w t d))
    iintro H; iexists d; iexact H

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem not_cond0 (t : Fin cfg0.N) (hi : cfg0.idle 4 (grid0.coords t) = true) : ¬t.val < 7 := fun h => by
  rw [live0_4 t ((hcond0_0 t).mpr h)] at hi; exact Bool.false_ne_true hi
theorem not_cond1 (t : Fin cfg0.N) (hi : cfg0.idle 6 (grid0.coords t) = true) : ¬t.val % 7 = 0 := fun h => by
  rw [live0_6 t ((hcond0_1 t).mpr h)] at hi; exact Bool.false_ne_true hi

theorem before0_4 (c : Dev nD) (t : Fin cfg0.N) (hi : cfg0.idle 4 (grid0.coords t) = true) (d) : (dats m 0 c).before 4 t d = (dats m 0 c).after 4 t :=
  before_idle m c 4 rfl (fun _ _ => rfl) (fun t hi => have h := not_cond0 t hi
    ⟨by omega, noflush0_4 t h, by rw [after0_4, after0_4, xAt_prev t h]⟩) d _ t rfl hi
theorem before0_5 (c : Dev nD) (t : Fin cfg0.N) (hi : cfg0.idle 5 (grid0.coords t) = true) (d) : (dats m 0 c).before 5 t d = (dats m 0 c).after 5 t :=
  before_idle m c 5 rfl (fun _ _ => rfl) (fun t hi => have h := not_cond0 t hi
    ⟨by omega, noflush0_5 t h, by rw [after0_5, after0_5, xAt_prev t h]⟩) d _ t rfl hi
theorem before0_6 (c : Dev nD) (t : Fin cfg0.N) (hi : cfg0.idle 6 (grid0.coords t) = true) (d) : (dats m 0 c).before 6 t d = (dats m 0 c).after 6 t :=
  before_idle m c 6 rfl (fun _ _ => rfl) (fun t hi => have h := not_cond1 t hi
    ⟨fun e => h (by rw [e]), noflush0_6 t h, by rw [after0_6, after0_6, yB_prev m c t h]⟩) d _ t rfl hi
theorem before0_7 (c : Dev nD) (t : Fin cfg0.N) (hi : cfg0.idle 7 (grid0.coords t) = true) (d) : (dats m 0 c).before 7 t d = (dats m 0 c).after 7 t :=
  before_idle m c 7 rfl (fun _ _ => rfl) (fun t hi => have h := not_cond1 t hi
    ⟨fun e => h (by rw [e]), noflush0_7 t h, by rw [after0_7, after0_7, yB_prev m c t h]⟩) d _ t rfl hi

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem coord1 (t : Fin cfg0.N) : (grid0.coords t 1).val = t.val % 7 := by
  have e1 : (grid0.coords t 1).val = t.val / 1 % 7 := Pipeline.Grid.coords_val t 1 (by decide) rfl
  rw [e1, Nat.div_one]

theorem Φ_castSucc (c : Dev nD) (t : Fin cfg0.N) : (dats m 0 c).Φ t.castSucc = PhiS m c t.val := by dsimp only [dats]; rfl
theorem Φ_succ (c : Dev nD) (t : Fin cfg0.N) : (dats m 0 c).Φ t.succ = PhiS m c (t.val + 1) := by dsimp only [dats]; rfl

/-! ## How `Held` moves -/

/-- The scratch of `x` once the point's own block is in it. -/
theorem held_put (c : Dev nD) (t : Fin cfg0.N) (h0 : t.val < 7) {d0 : Vec F S3584x3072 .bf16} {d1 : Vec F S3072x512 .bf16} (h : Held m c t.val d0 d1) (k : Fin 7) (hk : k.val < t.val + 1) :
    takeRows k.val k.isLt (putRows (grid0.coords t 1).val (deqsX (xB m c (xAt t))) d0) = deqsX (xB m c k) := by
  have ec : (grid0.coords t 1).val = t.val := by rw [coord1]; omega
  rw [ec]
  by_cases e : k.val = t.val
  · have ek : xAt t = k := Fin.ext (by show min t.val 6 = k.val; omega)
    rw [ek, ← e, takeRows_putRows]
  · rw [takeRows_putRows_of_ne k.val t.val k.isLt e]; exact h.1 k (by omega)

/-- The rows the point's product reads. -/
theorem rows_point (c : Dev nD) (t : Fin cfg0.N) {d0 : Vec F S3584x3072 .bf16}
    (h : ∀ k : Fin 7, k.val < t.val + 1 → takeRows k.val k.isLt d0 = deqsX (xB m c k)) :
    takeRows (grid0.coords t 1).val (grid0.coords t 1).isLt d0 = deqsX (xB m c (iAt t)) := by
  have := h (iAt t) (by show t.val % 7 < _; omega)
  rw [← this]
  have ec := coord1 t
  have : ∀ (a b : ℕ) (ha : a < 7) (hb : b < 7), a = b → takeRows a ha d0 = takeRows b hb d0 := fun a b ha hb e => by subst e; rfl
  exact this _ _ _ _ ec

theorem yB_next (c : Dev nD) (t t' : Fin cfg0.N) (e : t'.val = t.val + 1) (h : (t.val + 1) % 7 ≠ 0) : yB m c t = yB m c t' :=
  congrArg (yCols (V m c main_v1)) (Fin.ext (by show t.val / 7 = t'.val / 7; omega))

/-- `Held` at the next point, from the two scratches after this one. -/
theorem held_next (c : Dev nD) (t : Fin cfg0.N) {d0 : Vec F S3584x3072 .bf16}
    (h : ∀ k : Fin 7, k.val < t.val + 1 → takeRows k.val k.isLt d0 = deqsX (xB m c k)) :
    Held m c (t.val + 1) d0 (deqsY (yB m c t)) :=
  ⟨h, fun t' e hn => congrArg deqsY (yB_next m c t t' e hn)⟩

end Cert.KernelIdeal.Hand

end
-- ==== Proof.Body.Run.lean ====
/- The body at every grid point, the run of the whole kernel, and the frame. -/
module

public import proofs.«01_k».proof.Proof.Body.Data
public import Idealize.ShloMosaic.Lib.Claim
public import Idealize.ShloMosaic.Lib.Pipeline.ReadBack
public import Idealize.ShloMosaic.Lib.VecWindow
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block, from the scratches the product reads. -/
theorem out_eq (c : Dev nD) (t : Fin cfg0.N) {d0 : Vec F S3584x3072 .bf16}
    (h : ∀ k : Fin 7, k.val < t.val + 1 → takeRows k.val k.isLt d0 = deqsX (xB m c k)) :
    k0_pay3 (takeRows (grid0.coords t 1).val (grid0.coords t 1).isLt d0) (tile (V m c main_arg2) (iAt t) (yAt t)) (deqsY (yB m c t)) = outAt m c t := by
  unfold outAt; rw [rows_point m c t h]

set_option maxHeartbeats 3200000 in
/-- The body at any point: its steps in order, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Φ_castSucc, Φ_succ, show (dats m 0 c).owesAt () t.succ = (dats m 0 c).owesAt () t.castSucc from rfl,
    leaves_live m c 0 t rfl, leaves_live m c 1 t rfl, leaves_live m c 2 t rfl, leaves_live m c 3 t rfl,
    after0_0, after0_1, after0_2, after0_3, iblk0_0, iblk0_1, iblk0_2]
  unfold PhiS
  by_cases h0 : cond0_0 (grid0.coords t) <;> by_cases h1 : cond0_1 (grid0.coords t)
  · rw [body_eq, dif_pos h0, dif_pos h1]
    rw [leaves_live m c 4 t (live0_4 t h0), after0_4, leaves_live m c 5 t (live0_5 t h0), after0_5, leaves_live m c 6 t (live0_6 t h1), after0_6, leaves_live m c 7 t (live0_7 t h1), after0_7]
    iintro ⟨⟨⟨%d0, %d1, %hH, HS0, HS1⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hr := fun k hk => held_put m c t ((hcond0_0 t).mp h0) hH k hk
    have hd := out_eq m c t hr
    iapply (stepX_run c (grid0.coords t) _ _ _ _ _ _ _ _ _ _ _ _ _ _ _ _ _ _ _ _ h0 _ (xB m c (xAt t)) d0 Set.univ _)
    isplitl [H0]; · iexact H0
    isplitl [H4]; · iexists _; iexact H4
    isplitl [H5]; · iexists _; iexact H5
    isplitl [HS0]; · iexact HS0
    iintro ⟨H0, H4, H5, HS0⟩
    iapply (stepY_run c (grid0.coords t) _ _ _ _ _ _ _ _ _ _ _ _ _ _ _ _ _ _ _ _ _ (yB m c t) Set.univ _)
    isplitl [H1]; · iexact H1
    isplitl [H6]; · iexists _; iexact H6
    isplitl [H7]; · iexists _; iexact H7
    isplitl [HS1]; · iexists _; iexact HS1
    iintro ⟨H1, H6, H7, HS1⟩
    iapply (stepDot_run c (grid0.coords t) _ _ _ _ _ _ _ _ _ _ _ _ _ _ _ _ _ _ _ _ (tile (V m c main_arg2) (iAt t) (yAt t)) _ _ Set.univ _)
    isplitl [H2]; · iexact H2
    isplitl [H3]; · iexists _; iexact H3
    isplitl [HS0]; · iexact HS0
    isplitl [HS1]; · iexact HS1
    rw [hd]
    iintro ⟨H2, H3, HS0, HS1⟩
    isplitl [HS0 HS1 Hg]
    · isplitl [HS0 HS1]
      · iexists _, _; isplitr; · ipureintro; exact held_next m c t hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [body_eq, dif_pos h0, dif_neg h1]
    rw [leaves_live m c 4 t (live0_4 t h0), after0_4, leaves_live m c 5 t (live0_5 t h0), after0_5]
    iintro ⟨⟨⟨%d0, %d1, %hH, HS0, HS1⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hr := fun k hk => held_put m c t ((hcond0_0 t).mp h0) hH k hk
    obtain rfl := hH.2 t rfl (mt (hcond0_1 t).mpr h1)
    have hd := out_eq m c t hr
    iapply (stepX_run c (grid0.coords t) _ _ _ _ _ _ _ _ _ _ _ _ _ _ _ _ _ _ _ _ h0 _ (xB m c (xAt t)) d0 Set.univ _)
    isplitl [H0]; · iexact H0
    isplitl [H4]; · iexists _; iexact H4
    isplitl [H5]; · iexists _; iexact H5
    isplitl [HS0]; · iexact HS0
    iintro ⟨H0, H4, H5, HS0⟩
    iapply (stepDot_run c (grid0.coords t) _ _ _ _ _ _ _ _ _ _ _ _ _ _ _ _ _ _ _ _ (tile (V m c main_arg2) (iAt t) (yAt t)) _ _ Set.univ _)
    isplitl [H2]; · iexact H2
    isplitl [H3]; · iexists _; iexact H3
    isplitl [HS0]; · iexact HS0
    isplitl [HS1]; · iexact HS1
    rw [hd]
    iintro ⟨H2, H3, HS0, HS1⟩
    isplitl [HS0 HS1 Hg]
    · isplitl [HS0 HS1]
      · iexists _, _; isplitr; · ipureintro; exact held_next m c t hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_idle m c 6 t (idle0_6 t h1) (before0_6 m c t (idle0_6 t h1)) e6); iexact H6
    iapply (leaves_idle m c 7 t (idle0_7 t h1) (before0_7 m c t (idle0_7 t h1)) e7); iexact H7
  · rw [body_eq, dif_neg h0, dif_pos h1]
    rw [leaves_live m c 6 t (live0_6 t h1), after0_6, leaves_live m c 7 t (live0_7 t h1), after0_7]
    iintro ⟨⟨⟨%d0, %d1, %hH, HS0, HS1⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hr : ∀ k : Fin 7, k.val < t.val + 1 → takeRows k.val k.isLt d0 = deqsX (xB m c k) := fun k _ =>
      hH.1 k (by have := k.isLt; have := mt (hcond0_0 t).mpr h0; omega)
    have hd := out_eq m c t hr
    iapply (stepY_run c (grid0.coords t) _ _ _ _ _ _ _ _ _ _ _ _ _ _ _ _ _ _ _ _ _ (yB m c t) Set.univ _)
    isplitl [H1]; · iexact H1
    isplitl [H6]; · iexists _; iexact H6
    isplitl [H7]; · iexists _; iexact H7
    isplitl [HS1]; · iexists _; iexact HS1
    iintro ⟨H1, H6, H7, HS1⟩
    iapply (stepDot_run c (grid0.coords t) _ _ _ _ _ _ _ _ _ _ _ _ _ _ _ _ _ _ _ _ (tile (V m c main_arg2) (iAt t) (yAt t)) _ _ Set.univ _)
    isplitl [H2]; · iexact H2
    isplitl [H3]; · iexists _; iexact H3
    isplitl [HS0]; · iexact HS0
    isplitl [HS1]; · iexact HS1
    rw [hd]
    iintro ⟨H2, H3, HS0, HS1⟩
    isplitl [HS0 HS1 Hg]
    · isplitl [HS0 HS1]
      · iexists _, _; isplitr; · ipureintro; exact held_next m c t hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_idle m c 4 t (idle0_4 t h0) (before0_4 m c t (idle0_4 t h0)) e4); iexact H4
    isplitl [H5]; · iapply (leaves_idle m c 5 t (idle0_5 t h0) (before0_5 m c t (idle0_5 t h0)) e5); iexact H5
    isplitl [H6]; · iexact H6
    iexact H7
  · rw [body_eq, dif_neg h0, dif_neg h1]
    iintro ⟨⟨⟨%d0, %d1, %hH, HS0, HS1⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hr : ∀ k : Fin 7, k.val < t.val + 1 → takeRows k.val k.isLt d0 = deqsX (xB m c k) := fun k _ =>
      hH.1 k (by have := k.isLt; have := mt (hcond0_0 t).mpr h0; omega)
    obtain rfl := hH.2 t rfl (mt (hcond0_1 t).mpr h1)
    have hd := out_eq m c t hr
    iapply (stepDot_run c (grid0.coords t) _ _ _ _ _ _ _ _ _ _ _ _ _ _ _ _ _ _ _ _ (tile (V m c main_arg2) (iAt t) (yAt t)) _ _ Set.univ _)
    isplitl [H2]; · iexact H2
    isplitl [H3]; · iexists _; iexact H3
    isplitl [HS0]; · iexact HS0
    isplitl [HS1]; · iexact HS1
    rw [hd]
    iintro ⟨H2, H3, HS0, HS1⟩
    isplitl [HS0 HS1 Hg]
    · isplitl [HS0 HS1]
      · iexists _, _; isplitr; · ipureintro; exact held_next m c t hr
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_idle m c 4 t (idle0_4 t h0) (before0_4 m c t (idle0_4 t h0)) e4); iexact H4
    isplitl [H5]; · iapply (leaves_idle m c 5 t (idle0_5 t h0) (before0_5 m c t (idle0_5 t h0)) e5); iexact H5
    isplitl [H6]; · iapply (leaves_idle m c 6 t (idle0_6 t h1) (before0_6 m c t (idle0_6 t h1)) e6); iexact H6
    iapply (leaves_idle m c 7 t (idle0_7 t h1) (before0_7 m c t (idle0_7 t h1)) e7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the scratches hold anything, -/
theorem phi_in (c : Dev nD) : (Pipeline.ΦA spec0 c : sProp 𝕄) ⊢ (dats m 0 c).Φ 0 := by
  rw [PhiA0_eq]; show _ ⊢ PhiS m c 0
  unfold PhiS
  iintro ⟨⟨⟨%d0, HS0⟩, ⟨%d1, HS1⟩⟩, Hg⟩
  isplitl [HS0 HS1]
  · iexists d0, d1; isplitr; · ipureintro; exact ⟨fun _ h => absurd h (Nat.not_lt_zero _), fun _ _ h => absurd rfl h⟩
    isplitl [HS0]; · iexact HS0
    iexact HS1
  iexact Hg

/-- and after the last their contents are forgotten. -/
theorem phi_out (c : Dev nD) : (dats m 0 c).Φ (Fin.last cfg0.N) ⊢ (Pipeline.ΦA spec0 c : sProp 𝕄) := by
  rw [PhiA0_eq]; show PhiS m c cfg0.N ⊢ _
  unfold PhiS
  iintro ⟨⟨%d0, %d1, -, HS0, HS1⟩, Hg⟩
  isplitl [HS0 HS1]
  · isplitl [HS0]
    · iexists _; iexact HS0
    iexists _; iexact HS1
  iexact Hg

set_option backward.isDefEq.respectTransparency.types false in
/-- The run: every window's array ends as the proof data says, and every semaphore counter ends at zero. -/
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.SameProgram.lean ====
module

/- The kernel and the program idealised from it are one text: no operation was rewritten. So what was proved of
   the idealised program at every reading of the floats holds of the kernel. -/
public import proofs.«01_k».proof.Defs
public import proofs.«01_k».proof.Proof.Gen.Kernel
public import proofs.«01_k».proof.Proof.Body.Run

@[expose] public section

set_option maxRecDepth 16384

noncomputable section

namespace Cert.Kernel.Hand

open Idealize.ShloMosaic Idealize.SL.Sem

variable {F : FTy → Type} [FloatOps F]

/-- The two kernel bodies are one function. -/
theorem body_eq : @Cert.Kernel.cc0_wgrad_fp8 F _ Cert.Kernel.Gen.facts
    = @Cert.KernelIdeal.cc0_wgrad_fp8 F _ Cert.KernelIdeal.Gen.facts := rfl

/-- So are the tables of bodies. -/
theorem bodies_eq : @Cert.Kernel.defs₀ F _ Cert.Kernel.Gen.facts
    = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) => rw [body_eq]; rfl
  | ⟨_ + 1, h⟩, _ => exact absurd h (Nat.not_lt.2 (Nat.le_add_left _ _))

/-- So are the tables of everything `@main` calls. -/
theorem defs_eq : @Cert.Kernel.defs F _ Cert.Kernel.Gen.facts
    = @Cert.KernelIdeal.defs F _ Cert.KernelIdeal.Gen.facts :=
  congrArg (Pipeline.defs Cert.KernelIdeal.pcfgs) bodies_eq

/-- And the two mains. -/
theorem main_eq : Cert.Kernel.main (F := F) = Cert.KernelIdeal.main (F := F) := rfl

/-- The kernel ends with every semaphore at rest and its arguments as they were. -/
theorem quiescent : Cert.quiescent_Kernel (hKernel := Cert.Kernel.Gen.facts) := fun m g _ => by
  have h := Cert.KernelIdeal.Hand.frame (F := Bits) m g
  rw [← defs_eq, ← main_eq] at h
  exact h

end Cert.Kernel.Hand

end
-- ==== Proof.Val.Scale.lean ====
module

/- A scale, as the kernel builds it from the exponent field of `t` and as the reference computes it from the logarithm
   of `t`: the same power of two. -/
public import Idealize.ShloMosaic.PureOps.Ideal
public import Idealize.ShloMosaic.PureOps.Ideal.Laws
public import Idealize.ShloMosaic.Lib.WordSum

@[expose] public section

noncomputable section

namespace Cert.Scale

open Idealize.ShloMosaic

/-! ## The kernel's words -/

/-- The word whose exponent field is `n` and whose other bits are zero. -/
def word (n : BitVec 32) : BitVec 32 := IntOp.shli ArithUnit.vector n 23#32

/-- The exponent field of `t`: how many of the fields 1 … 255 stand for a power of two at most `t`. -/
def fieldOf (t : EReal) : BitVec 32 :=
  Finset.fold IntOp.addi (0#32) (fun k : Fin 255 => BitVec.setWidth 32 (BitVec.ofBool (decide
    (Ideal.ofBits .f32 (word (IntOp.addi (BitVec.ofNat 32 k.val) 1#32)) ≤ t)))) Finset.univ

/-- Whether the field is that of a zero, a subnormal or an infinity. -/
def isOne (n : BitVec 32) : BitVec 1 := IntOp.ori (IntOp.cmpi .eq n 0#32) (IntOp.cmpi .eq n 255#32)

/-- The kernel's scale of a row with exponent field `n`, and the scale's inverse. -/
def scaleOf (n : BitVec 32) : EReal := Ideal.ofBits .f32 (word (Scalar.select (isOne n) 127#32 (IntOp.addi n 1#32)))
def invOf (n : BitVec 32) : EReal := Ideal.ofBits .f32 (word (Scalar.select (isOne n) 127#32 (IntOp.subi 253#32 n)))

/-! ## The reference's exponent -/

/-- `t` with a subnormal made zero. -/
def flush (t : EReal) : EReal := if t < Ideal.ofBits .f32 0x00800000#32 then 0 else t

/-- The reference's exponent for a row whose largest absolute value is `a`; `c` is the reciprocal of the largest code, `L` the
    logarithm of two. -/
def expOf (L a c : EReal) : EReal :=
  if a = 0 then 0
  else Scalar.select (IntOp.ori (BitVec.ofBool (decide (flush (a * c) = 0)))
      (BitVec.ofBool (decide (flush (a * c) = Ideal.ofBits .f32 0x7F800000#32)))) 0
    (Ideal.liftRound Int.floor (Ideal.div (Ideal.log (flush (a * c))) L) + 1)

/-! ## Powers of two -/

theorem ofBits_f32 (b : BitVec 32) : Ideal.ofBits .f32 b = Ideal.ieee 8 23 b := rfl

theorem word_fields : ∀ n : Fin 256, ((word (BitVec.ofNat 32 n.val)).extractLsb' 31 1 == 1#1) = false
    ∧ ((word (BitVec.ofNat 32 n.val)).extractLsb' 23 8).toNat = n.val
    ∧ ((word (BitVec.ofNat 32 n.val)).extractLsb' 0 23).toNat = 0 := by decide +kernel

/-- A word with a normal exponent field and nothing else is a power of two. -/
theorem word_pow {n : ℕ} (h1 : 1 ≤ n) (h2 : n ≤ 254) :
    Ideal.ofBits .f32 (word (BitVec.ofNat 32 n)) = (((2 : ℝ) ^ ((n : ℤ) - 127) : ℝ) : EReal) := by
  obtain ⟨a, b, c⟩ := word_fields ⟨n, by omega⟩
  simp only [] at a b c
  rw [ofBits_f32]
  unfold Ideal.ieee
  simp only [a, b, c, Nat.reduceAdd]
  rw [if_neg (by omega), if_neg (by omega), EReal.coe_eq_coe_iff]
  norm_num
  rw [show (8388608 : ℝ) = (2 : ℝ) ^ (23 : ℤ) by norm_num, ← zpow_add₀ (by norm_num)]
  exact congrArg (fun z : ℤ => (2 : ℝ) ^ z) (by ring)

/-- The word with exponent field 255 and nothing else is the infinity. -/
theorem word_top : Ideal.ofBits .f32 (word (BitVec.ofNat 32 255)) = ⊤ := by
  obtain ⟨a, b, c⟩ := word_fields ⟨255, by omega⟩
  simp only [] at a b c
  rw [ofBits_f32]
  unfold Ideal.ieee
  simp only [a, b, c, Nat.reduceAdd]
  simp

theorem ofBits_one : Ideal.ofBits .f32 (word 127#32) = 1 := by
  have := word_pow (n := 127) (by omega) (by omega)
  rw [show BitVec.ofNat 32 127 = 127#32 from rfl] at this
  rw [this]; simp

theorem ofBits_minNormal : Ideal.ofBits .f32 0x00800000#32 = (((2 : ℝ) ^ (-126 : ℤ) : ℝ) : EReal) := by
  have := word_pow (n := 1) (by omega) (by omega)
  rw [show word (BitVec.ofNat 32 1) = 0x00800000#32 by decide] at this
  rw [this]; norm_num

theorem ofBits_inf : Ideal.ofBits .f32 0x7F800000#32 = ⊤ := by
  have := word_top
  rwa [show word (BitVec.ofNat 32 255) = 0x7F800000#32 by decide] at this

/-! ## The exponent field -/

/-- If the fields up to `n` are exactly those whose power of two is at most `t`, then `n` is the exponent field of `t`. -/
theorem fieldOf_eq {t : EReal} {n : ℕ} (hn : n ≤ 255)
    (h : ∀ k : ℕ, 1 ≤ k → k ≤ 255 → (Ideal.ofBits .f32 (word (BitVec.ofNat 32 k)) ≤ t ↔ k ≤ n)) : fieldOf t = BitVec.ofNat 32 n := by
  have hk : ∀ k : Fin 255, BitVec.setWidth 32 (BitVec.ofBool (decide
      (Ideal.ofBits .f32 (word (IntOp.addi (BitVec.ofNat 32 k.val) 1#32)) ≤ t))) = if k.val < n then 1#32 else 0#32 := by
    intro k
    have e : IntOp.addi (BitVec.ofNat 32 k.val) 1#32 = BitVec.ofNat 32 (k.val + 1) := (BitVec.ofNat_add _ _).symm
    have := h (k.val + 1) (by omega) (by omega)
    rw [e]
    by_cases hkn : k.val < n
    · rw [if_pos hkn, decide_eq_true (this.2 (by omega))]; rfl
    · rw [if_neg hkn, decide_eq_false (fun hh => hkn (by have := this.1 hh; omega))]; rfl
  have hs : fieldOf t = ∑ k : Fin 255, if k.val < n then 1#32 else 0#32 := by
    unfold fieldOf
    rw [Finset.sum_eq_fold]
    exact Finset.fold_congr fun k _ => hk k
  have hc : (∑ k : Fin 255, ((if k.val < n then 1#32 else 0#32 : BitVec 32)).toNat) = n := by
    have : ∀ k : Fin 255, ((if k.val < n then 1#32 else 0#32 : BitVec 32)).toNat = if k.val < n then 1 else 0 := by
      intro k; split <;> rfl
    rw [Finset.sum_congr rfl fun k _ => this k, Finset.sum_boole]
    rw [Fin.card_filter_val_lt]
    simp [hn]
  apply BitVec.eq_of_toNat_eq
  rw [hs, WordSum.toNat_sum _ _ (by rw [hc]; omega), hc, BitVec.toNat_ofNat, Nat.mod_eq_of_lt (by omega)]

/-- An infinity has exponent field 255. -/
theorem fieldOf_top : fieldOf ⊤ = BitVec.ofNat 32 255 :=
  fieldOf_eq le_rfl fun k _ h => ⟨fun _ => h, fun _ => le_top⟩

theorem pow_le_iff {k : ℕ} (h1 : 1 ≤ k) (h2 : k ≤ 255) {t : ℝ} {n : ℕ} (hn : n ≤ 254) (hlo : n = 0 ∨ (2 : ℝ) ^ ((n : ℤ) - 127) ≤ t)
    (hhi : t < (2 : ℝ) ^ ((n : ℤ) + 1 - 127)) : Ideal.ofBits .f32 (word (BitVec.ofNat 32 k)) ≤ (t : EReal) ↔ k ≤ n := by
  by_cases hk : k = 255
  · subst hk
    rw [word_top]
    constructor
    · intro h; exact absurd (top_le_iff.1 h) (EReal.coe_ne_top t)
    · intro h; omega
  · rw [word_pow h1 (by omega), EReal.coe_le_coe_iff]
    constructor
    · intro h
      have := (zpow_lt_zpow_iff_right₀ (by norm_num : (1 : ℝ) < 2)).1 (lt_of_le_of_lt h hhi)
      omega
    · intro h
      rcases hlo with h0 | hlo
      · omega
      · exact le_trans (zpow_le_zpow_right₀ (by norm_num) (by omega)) hlo

/-- A real at least `2^(n-127)` and below `2^(n-126)` has exponent field `n`; a real below `2^(-126)` has exponent field 0. -/
theorem fieldOf_coe {t : ℝ} {n : ℕ} (hn : n ≤ 254) (hlo : n = 0 ∨ (2 : ℝ) ^ ((n : ℤ) - 127) ≤ t)
    (hhi : t < (2 : ℝ) ^ ((n : ℤ) + 1 - 127)) : fieldOf (t : EReal) = BitVec.ofNat 32 n :=
  fieldOf_eq (by omega) fun _ h1 h2 => pow_le_iff h1 h2 hn hlo hhi

theorem isOne_mid : ∀ n : Fin 256, 1 ≤ n.val → n.val ≤ 254 → isOne (BitVec.ofNat 32 n.val) = 0#1 := by decide +kernel

/-- The scale of a row with a normal exponent field below 254 is a power of two, and so is its inverse. -/
theorem scaleOf_mid {n : ℕ} (h1 : 1 ≤ n) (h2 : n ≤ 252) :
    scaleOf (BitVec.ofNat 32 n) = (((2 : ℝ) ^ ((n : ℤ) - 126) : ℝ) : EReal)
    ∧ invOf (BitVec.ofNat 32 n) = (((2 : ℝ) ^ (126 - (n : ℤ)) : ℝ) : EReal) := by
  have ho := isOne_mid ⟨n, by omega⟩ h1 (by simp only []; omega)
  simp only [] at ho
  have e1 : IntOp.addi (BitVec.ofNat 32 n) 1#32 = BitVec.ofNat 32 (n + 1) := (BitVec.ofNat_add _ _).symm
  have e2 : IntOp.subi 253#32 (BitVec.ofNat 32 n) = BitVec.ofNat 32 (253 - n) := by
    show 253#32 - BitVec.ofNat 32 n = _
    apply BitVec.eq_of_toNat_eq
    rw [BitVec.toNat_sub_of_le (by rw [BitVec.le_def, BitVec.toNat_ofNat]; simp; omega)]
    simp only [BitVec.toNat_ofNat]
    omega
  unfold scaleOf invOf
  rw [ho, e1, e2]
  constructor
  · show Ideal.ofBits .f32 (word (BitVec.ofNat 32 (n + 1))) = _
    rw [word_pow (by omega) (by omega)]
    congr 2; push_cast; ring
  · show Ideal.ofBits .f32 (word (BitVec.ofNat 32 (253 - n))) = _
    rw [word_pow (by omega) (by omega)]
    congr 2; push_cast [Nat.cast_sub (show n ≤ 253 by omega)]; ring

/-- The scale of a row of zeros, subnormals or infinities is one, and so is its inverse. -/
theorem scaleOf_one {n : BitVec 32} (h : n = BitVec.ofNat 32 0 ∨ n = BitVec.ofNat 32 255) : scaleOf n = 1 ∧ invOf n = 1 := by
  rcases h with rfl | rfl
  · exact ⟨ofBits_one, ofBits_one⟩
  · exact ⟨ofBits_one, ofBits_one⟩

/-! ## The two agree -/

/-- For a row whose largest absolute value is finite in bfloat16, or infinite, the kernel's scale is two to the reference's
    exponent, and the kernel's inverse is two to its negative. -/
theorem scale_eq {L a c : EReal} {r : ℝ} (hL : L = ((Real.log 2 : ℝ) : EReal)) (hc : c = (r : EReal)) (hr0 : 0 < r)
    (hr1 : r ≤ (2 : ℝ) ^ (-8 : ℤ)) (ha0 : 0 ≤ a) (ha : a ≤ (((2 : ℝ) ^ (128 : ℤ) : ℝ) : EReal) ∨ a = ⊤) :
    scaleOf (fieldOf (a * c)) = Ideal.exp2 (expOf L a c) ∧ invOf (fieldOf (a * c)) = Ideal.exp2 (0 - expOf L a c) := by
  subst hL hc
  have exp2_zero : Ideal.exp2 0 = 1 := by
    show ((Real.rpow 2 0 : ℝ) : EReal) = 1
    simp
  rcases ha with ha | rfl
  · -- a real row
    induction a using EReal.rec with
    | bot => exact absurd ha0 (by simp)
    | top => exact absurd (top_le_iff.1 ha) (EReal.coe_ne_top _)
    | coe x =>
      have hx0 : 0 ≤ x := EReal.coe_nonneg.1 ha0
      have hx1 : x ≤ (2 : ℝ) ^ (128 : ℤ) := EReal.coe_le_coe_iff.1 ha
      rw [← EReal.coe_mul]
      have htp : x * r ≤ (2 : ℝ) ^ (120 : ℤ) := by
        calc x * r ≤ (2 : ℝ) ^ (128 : ℤ) * (2 : ℝ) ^ (-8 : ℤ) := mul_le_mul hx1 hr1 hr0.le (by positivity)
          _ = _ := by rw [← zpow_add₀ (by norm_num)]; norm_num
      by_cases hs : x * r < (2 : ℝ) ^ (-126 : ℤ)
      · have hf : fieldOf ((x * r : ℝ) : EReal) = BitVec.ofNat 32 0 :=
          fieldOf_coe (by omega) (.inl rfl) (by simpa using hs)
        have he : expOf ((Real.log 2 : ℝ) : EReal) x r = 0 := by
          unfold expOf
          split
          · rfl
          · have : flush ((x : EReal) * (r : EReal)) = 0 := by
              unfold flush
              rw [ofBits_minNormal, ← EReal.coe_mul, if_pos (EReal.coe_lt_coe_iff.2 hs)]
            rw [this, decide_eq_true rfl, ofBits_inf, decide_eq_false (by simp)]
            rfl
        rw [hf, he, (scaleOf_one (.inl rfl)).1, (scaleOf_one (.inl rfl)).2, sub_zero, exp2_zero]
        exact ⟨rfl, rfl⟩
      · have hs' : (2 : ℝ) ^ (-126 : ℤ) ≤ x * r := not_lt.1 hs
        have ht0 : 0 < x * r := lt_of_lt_of_le (by positivity) hs'
        have hx : x ≠ 0 := by rintro rfl; simp at ht0
        have hl2 : 0 < Real.log 2 := Real.log_pos (by norm_num)
        obtain ⟨E, hE⟩ : ∃ E : ℤ, E = ⌊Real.log (x * r) / Real.log 2⌋ := ⟨_, rfl⟩
        have hpow : ∀ z : ℤ, (2 : ℝ) ^ z = Real.exp (z * Real.log 2) := by
          intro z
          rw [← Real.rpow_intCast, Real.rpow_def_of_pos (by norm_num)]
          congr 1; ring
        have hElo : (2 : ℝ) ^ E ≤ x * r := by
          rw [hpow, ← Real.le_log_iff_exp_le ht0, ← le_div_iff₀ hl2, hE]
          exact Int.floor_le _
        have hEhi : x * r < (2 : ℝ) ^ (E + 1) := by
          rw [hpow, ← Real.log_lt_iff_lt_exp ht0, ← div_lt_iff₀ hl2, hE]
          push_cast
          exact Int.lt_floor_add_one _
        have h1 : -126 < E + 1 := (zpow_lt_zpow_iff_right₀ (by norm_num : (1 : ℝ) < 2)).1 (lt_of_le_of_lt hs' hEhi)
        have h2 : E ≤ 120 := (zpow_le_zpow_iff_right₀ (by norm_num : (1 : ℝ) < 2)).1 (le_trans hElo htp)
        obtain ⟨n, hn⟩ : ∃ n : ℕ, (n : ℤ) = E + 127 := ⟨(E + 127).toNat, by omega⟩
        have hf : fieldOf ((x * r : ℝ) : EReal) = BitVec.ofNat 32 n :=
          fieldOf_coe (by omega) (.inr (by rw [hn, show E + 127 - 127 = E by ring]; exact hElo))
            (by rw [hn, show E + 127 + 1 - 127 = E + 1 by ring]; exact hEhi)
        have he : expOf ((Real.log 2 : ℝ) : EReal) x r = (((E + 1 : ℤ) : ℝ) : EReal) := by
          unfold expOf
          rw [if_neg (by exact_mod_cast hx)]
          have hfl : flush ((x : EReal) * (r : EReal)) = ((x * r : ℝ) : EReal) := by
            unfold flush
            rw [ofBits_minNormal, ← EReal.coe_mul, if_neg (fun h => hs (EReal.coe_lt_coe_iff.1 h))]
          rw [hfl, decide_eq_false (by exact_mod_cast ht0.ne'), ofBits_inf, decide_eq_false (EReal.coe_ne_top _)]
          have hlog : Ideal.log ((x * r : ℝ) : EReal) = ((Real.log (x * r) : ℝ) : EReal) := by
            show (if x * r ≤ 0 then (⊥ : EReal) else _) = _
            rw [if_neg (not_le.2 ht0)]
          have hdiv : Ideal.div ((Real.log (x * r) : ℝ) : EReal) ((Real.log 2 : ℝ) : EReal)
              = ((Real.log (x * r) / Real.log 2 : ℝ) : EReal) := by
            unfold Ideal.div
            rw [if_neg (by exact_mod_cast hl2.ne'), ← EReal.coe_inv, ← EReal.coe_mul, div_eq_mul_inv]
          rw [hlog, hdiv]
          show Ideal.liftRound Int.floor _ + 1 = _
          show (((⌊Real.log (x * r) / Real.log 2⌋ : ℤ) : ℝ) : EReal) + 1 = _
          rw [← hE]; push_cast; rfl
        have hexp2 : ∀ z : ℤ, Ideal.exp2 (((z : ℤ) : ℝ) : EReal) = (((2 : ℝ) ^ z : ℝ) : EReal) := by
          intro z
          show ((Real.rpow 2 z : ℝ) : EReal) = _
          exact congrArg _ (Real.rpow_intCast 2 z)
        obtain ⟨k1, k2⟩ := scaleOf_mid (n := n) (by omega) (by omega)
        rw [hf, he, k1, k2]
        constructor
        · rw [hexp2]; congr 2; omega
        · rw [show (0 : EReal) - (((E + 1 : ℤ) : ℝ) : EReal) = (((-(E + 1) : ℤ) : ℝ) : EReal) by
            rw [zero_sub, ← EReal.coe_neg]; push_cast; rfl, hexp2]
          congr 2; omega
  · -- an infinite row
    rw [EReal.top_mul_coe_of_pos hr0, fieldOf_top]
    have he : expOf ((Real.log 2 : ℝ) : EReal) ⊤ r = 0 := by
      unfold expOf
      rw [if_neg (by simp), EReal.top_mul_coe_of_pos hr0]
      have : flush ⊤ = ⊤ := by unfold flush; rw [if_neg (by simp)]
      rw [this, ofBits_inf, decide_eq_true (rfl : (⊤ : EReal) = ⊤), decide_eq_false (by simp)]
      rfl
    rw [he, (scaleOf_one (.inr rfl)).1, (scaleOf_one (.inr rfl)).2, sub_zero, exp2_zero]
    exact ⟨rfl, rfl⟩

end Cert.Scale

end
-- ==== Proof.Val.Spec.lean ====
module

/- One column of an operand, quantised in groups of 128: as the kernel does it and as the reference does it. -/
public import proofs.«01_k».proof.Proof.Val.Scale

@[expose] public section

noncomputable section

namespace Cert.Scale

open Idealize.ShloMosaic

/-- The largest absolute value of a group. -/
def amax (f : Fin 128 → EReal) : EReal :=
  Finset.univ.fold max (Ideal.ofBits .f32 0xFF800000#32) fun r => max (f r) (-(f r))

/-- Group `g` of a column. -/
def part (f : Fin 3072 → EReal) (g : Fin 24) (r : Fin 128) : EReal := f ⟨g.val * 128 + r.val, by omega⟩

/-- The group of row `p`. -/
def grp (p : Fin 3072) : Fin 24 := ⟨p.val / 128, by omega⟩

/-! The kernel's scale, code and dequantised value; `c` is the reciprocal of the largest code, `lo` and `hi` the least and the
largest code. -/

def kScale (c : EReal) (f : Fin 3072 → EReal) (g : Fin 24) : EReal := scaleOf (fieldOf (amax (part f g) * c))
def kCode (lo hi c : EReal) (f : Fin 3072 → EReal) (p : Fin 3072) : EReal :=
  min hi (max lo (f p * invOf (fieldOf (amax (part f (grp p)) * c))))
def kDeq (lo hi c : EReal) (f : Fin 3072 → EReal) (p : Fin 3072) : EReal := kCode lo hi c f p * kScale c f (grp p)

/-! The reference's; `L` is the logarithm of two. -/

def rScale (L c : EReal) (f : Fin 3072 → EReal) (g : Fin 24) : EReal := Ideal.exp2 (expOf L (amax (part f g)) c)
def rCode (L lo hi c : EReal) (f : Fin 3072 → EReal) (p : Fin 3072) : EReal :=
  min hi (max lo (f p * Ideal.exp2 (0 - expOf L (amax (part f (grp p))) c)))
def rDeq (L lo hi c : EReal) (f : Fin 3072 → EReal) (p : Fin 3072) : EReal := rCode L lo hi c f p * rScale L c f (grp p)

/-- An element the claim speaks of: at most the largest finite bfloat16 in absolute value, or infinite. -/
def InRange (x : EReal) : Prop := max x (-x) ≤ Ideal.ofBits .bf16 0x7F7F#16 ∨ max x (-x) = ⊤

theorem ofBits_bf16 (b : BitVec 16) : Ideal.ofBits .bf16 b = Ideal.ieee 8 7 b := rfl

/-- The real a pattern with a normal exponent field denotes. -/
theorem ieee_normal {e m w : ℕ} (b : BitVec w) (neg : Bool) (ex fr : ℕ) (hneg : (b.extractLsb' (e + m) 1 == 1#1) = neg)
    (hex : (b.extractLsb' m e).toNat = ex) (hfr : (b.extractLsb' 0 m).toNat = fr) (h1 : ex ≠ 2 ^ e - 1) (h0 : ex ≠ 0) :
    Ideal.ieee e m b = (((if neg then -1 else 1) * (2 ^ m + fr : ℕ) * (2 : ℝ) ^ ((ex : ℤ) - (2 ^ (e - 1) - 1) - m) : ℝ) : EReal) := by
  subst hneg hex hfr
  unfold Ideal.ieee
  simp only []
  rw [if_neg h1, if_neg h0]

theorem ofBits_neg_inf : Ideal.ofBits .f32 0xFF800000#32 = ⊥ := by
  rw [ofBits_f32]; simp [Ideal.ieee]

theorem ofBits_neg_inf_bf16 : Ideal.ofBits .bf16 0xFF80#16 = ⊥ := by
  rw [ofBits_bf16]; simp [Ideal.ieee]

theorem bf16_max_le : Ideal.ofBits .bf16 0x7F7F#16 ≤ (((2 : ℝ) ^ (128 : ℤ) : ℝ) : EReal) := by
  rw [ofBits_bf16, ieee_normal _ false 254 127 (by decide) (by decide) (by decide) (by decide) (by decide), EReal.coe_le_coe_iff]
  norm_num

theorem amax_eq_sup (f : Fin 128 → EReal) : amax f = Finset.univ.sup fun r => max (f r) (-(f r)) := by
  unfold amax; rw [ofBits_neg_inf]; rfl

/-- The maximum over eight rows of sixteen, then over the sixteen, is the maximum over the group. -/
theorem amax_nested (f : Fin 128 → EReal) :
    (Finset.univ.fold max (Ideal.ofBits .f32 0xFF800000#32) fun a : Fin 16 =>
      Finset.univ.fold max (Ideal.ofBits .bf16 0xFF80#16) fun b : Fin 8 =>
        max (f ⟨b.val * 16 + a.val, by omega⟩) (-(f ⟨b.val * 16 + a.val, by omega⟩))) = amax f := by
  rw [amax_eq_sup, ofBits_neg_inf, ofBits_neg_inf_bf16]
  show (Finset.univ.sup fun a : Fin 16 => Finset.univ.sup fun b : Fin 8 => _) = _
  apply le_antisymm
  · refine Finset.sup_le fun a _ => Finset.sup_le fun b _ => ?_
    exact Finset.le_sup (f := fun r => max (f r) (-(f r))) (Finset.mem_univ _)
  · refine Finset.sup_le fun r _ => ?_
    have e : r = ⟨(⟨r.val / 16, by omega⟩ : Fin 8).val * 16 + (⟨r.val % 16, by omega⟩ : Fin 16).val, by simp only []; omega⟩ :=
      Fin.ext (by simp only []; omega)
    rw [e]
    exact le_trans (Finset.le_sup (f := fun b : Fin 8 => max (f ⟨b.val * 16 + (⟨r.val % 16, by omega⟩ : Fin 16).val, by simp only []; omega⟩)
        (-(f ⟨b.val * 16 + (⟨r.val % 16, by omega⟩ : Fin 16).val, by simp only []; omega⟩))) (Finset.mem_univ _))
      (Finset.le_sup (f := fun a : Fin 16 => Finset.univ.sup fun b : Fin 8 =>
        max (f ⟨b.val * 16 + a.val, by omega⟩) (-(f ⟨b.val * 16 + a.val, by omega⟩))) (Finset.mem_univ _))

theorem abs_nonneg (x : EReal) : 0 ≤ max x (-x) := by
  rcases le_total 0 x with h | h
  · exact le_trans h (le_max_left _ _)
  · exact le_trans (by simpa using h) (le_max_right _ _)

theorem amax_nonneg (f : Fin 128 → EReal) : 0 ≤ amax f := by
  rw [amax_eq_sup]
  exact le_trans (abs_nonneg (f 0)) (Finset.le_sup (f := fun r => max (f r) (-(f r))) (Finset.mem_univ 0))

theorem amax_range (f : Fin 128 → EReal) (h : ∀ r, InRange (f r)) :
    amax f ≤ (((2 : ℝ) ^ (128 : ℤ) : ℝ) : EReal) ∨ amax f = ⊤ := by
  rw [amax_eq_sup]
  by_cases ht : ∃ r, max (f r) (-(f r)) = ⊤
  · obtain ⟨r, hr⟩ := ht
    exact .inr (top_le_iff.1 (hr ▸ Finset.le_sup (f := fun r => max (f r) (-(f r))) (Finset.mem_univ r)))
  · refine .inl (Finset.sup_le fun r _ => ?_)
    rcases h r with h | h
    · exact le_trans h bf16_max_le
    · exact absurd ⟨r, h⟩ ht

/-- What the constants must be for the two to agree. -/
structure Consts (L c : EReal) : Prop where
  log : L = ((Real.log 2 : ℝ) : EReal)
  recip : ∃ r : ℝ, c = (r : EReal) ∧ 0 < r ∧ r ≤ (2 : ℝ) ^ (-8 : ℤ)

variable {L lo hi c : EReal} {f : Fin 3072 → EReal}

theorem scale_agree (hC : Consts L c) (h : ∀ p, InRange (f p)) (g : Fin 24) :
    scaleOf (fieldOf (amax (part f g) * c)) = Ideal.exp2 (expOf L (amax (part f g)) c)
    ∧ invOf (fieldOf (amax (part f g) * c)) = Ideal.exp2 (0 - expOf L (amax (part f g)) c) := by
  obtain ⟨r, hc, h0, h1⟩ := hC.recip
  exact scale_eq hC.log hc h0 h1 (amax_nonneg _) (amax_range _ fun _ => h _)

/-- The two scales of a column in range are one. -/
theorem kScale_eq (hC : Consts L c) (h : ∀ p, InRange (f p)) (g : Fin 24) : kScale c f g = rScale L c f g := (scale_agree hC h g).1

/-- So are the two codes. -/
theorem kCode_eq (hC : Consts L c) (h : ∀ p, InRange (f p)) (p : Fin 3072) : kCode lo hi c f p = rCode L lo hi c f p := by
  unfold kCode rCode; rw [(scale_agree hC h (grp p)).2]

/-- So are the two dequantised values. -/
theorem kDeq_eq (hC : Consts L c) (h : ∀ p, InRange (f p)) (p : Fin 3072) : kDeq lo hi c f p = rDeq L lo hi c f p := by
  unfold kDeq rDeq; rw [kScale_eq hC h, kCode_eq hC h]

/-! ## The constants -/

/-- The reciprocals of the largest e4m3 and e5m2 code, as the programs write them. -/
def cX : EReal := Ideal.ofBits .f32 0x3B124925#32
def cY : EReal := Ideal.ofBits .f32 0x37924925#32

theorem consts_X {L : EReal} (h : L = ((Real.log 2 : ℝ) : EReal)) : Consts L cX :=
  ⟨h, (2 ^ 23 + 1198373 : ℝ) * 2 ^ (-32 : ℤ), by
    unfold cX
    rw [ofBits_f32, ieee_normal _ false 118 1198373 (by decide) (by decide) (by decide) (by decide) (by decide), EReal.coe_eq_coe_iff]
    norm_num, by positivity, by norm_num⟩

theorem consts_Y {L : EReal} (h : L = ((Real.log 2 : ℝ) : EReal)) : Consts L cY :=
  ⟨h, (2 ^ 23 + 1198373 : ℝ) * 2 ^ (-39 : ℤ), by
    unfold cY
    rw [ofBits_f32, ieee_normal _ false 111 1198373 (by decide) (by decide) (by decide) (by decide) (by decide), EReal.coe_eq_coe_iff]
    norm_num, by positivity, by norm_num⟩

/-- The least and the largest code, of e4m3 and of e5m2. -/
def loX : EReal := Ideal.ofBits .f32 0xC3E00000#32
def hiX : EReal := Ideal.ofBits .f32 0x43E00000#32
def loY : EReal := Ideal.ofBits .f32 0xC7600000#32
def hiY : EReal := Ideal.ofBits .f32 0x47600000#32

/-- The kernel writes them in bfloat16. -/
theorem loX_bf16 : Ideal.ofBits .bf16 0xC3E0#16 = loX := by
  unfold loX
  rw [ofBits_f32, ofBits_bf16, ieee_normal _ true 135 96 (by decide) (by decide) (by decide) (by decide) (by decide),
    ieee_normal _ true 135 6291456 (by decide) (by decide) (by decide) (by decide) (by decide)]
  norm_num
theorem hiX_bf16 : Ideal.ofBits .bf16 0x43E0#16 = hiX := by
  unfold hiX
  rw [ofBits_f32, ofBits_bf16, ieee_normal _ false 135 96 (by decide) (by decide) (by decide) (by decide) (by decide),
    ieee_normal _ false 135 6291456 (by decide) (by decide) (by decide) (by decide) (by decide)]
  norm_num
theorem loY_bf16 : Ideal.ofBits .bf16 0xC760#16 = loY := by
  unfold loY
  rw [ofBits_f32, ofBits_bf16, ieee_normal _ true 142 96 (by decide) (by decide) (by decide) (by decide) (by decide),
    ieee_normal _ true 142 6291456 (by decide) (by decide) (by decide) (by decide) (by decide)]
  norm_num
theorem hiY_bf16 : Ideal.ofBits .bf16 0x4760#16 = hiY := by
  unfold hiY
  rw [ofBits_f32, ofBits_bf16, ieee_normal _ false 142 96 (by decide) (by decide) (by decide) (by decide) (by decide),
    ieee_normal _ false 142 6291456 (by decide) (by decide) (by decide) (by decide) (by decide)]
  norm_num

end Cert.Scale

end
-- ==== Proof.Val.Kernel.lean ====
module

/- What the kernel computes of one block, at exact arithmetic: each column of a block of an operand is quantised as
   `Cert.Scale` says, and an output block is the main gradient plus the product of the dequantised blocks. -/
public import proofs.«01_k».proof.Proof.Body.Group
public import proofs.«01_k».proof.Proof.Val.Spec
public import Idealize.ShloMosaic.Lib.Pointwise

@[expose] public section

set_option maxRecDepth 16384

noncomputable section

namespace Cert.KernelIdeal.Hand

open Cert.KernelIdeal Cert.KernelIdeal.Gen Idealize.ShloMosaic Cert.Scale

/-! ## One group -/

/-- The exponent fields of a group's scales. -/
theorem fieldX (v : Vec Ideal S128x512 .bf16) (q : Fin 512) :
    k0_pay5 v (ix2 0 q) = fieldOf (amax (fun r => v (ix2 r q)) * cX) := by
  pointwise [k0_pay5, k0_pay4]
  rw [← amax_nested]
  rfl
theorem fieldY (v : Vec Ideal S128x512 .bf16) (q : Fin 512) :
    k0_pay186 v (ix2 0 q) = fieldOf (amax (fun r => v (ix2 r q)) * cY) := by
  pointwise [k0_pay186, k0_pay185]
  rw [← amax_nested]
  rfl

/-- The scales of a group. -/
theorem scaleX_apply (v : Vec Ideal S128x512 .bf16) (q : Fin 512) :
    scaleX v (ix2 0 q) = scaleOf (fieldOf (amax (fun r => v (ix2 r q)) * cX)) := by
  rw [← fieldX]
  unfold scaleX
  pointwise [k0_pay7, k0_pay6]
  rfl
theorem scaleY_apply (v : Vec Ideal S128x512 .bf16) (q : Fin 512) :
    scaleY v (ix2 0 q) = scaleOf (fieldOf (amax (fun r => v (ix2 r q)) * cY)) := by
  rw [← fieldY]
  unfold scaleY
  pointwise [k0_pay188, k0_pay187]
  rfl

/-- The codes of a group. -/
theorem codeX_apply (v : Vec Ideal S128x512 .bf16) (p : Fin 128) (q : Fin 512) :
    codeX v (ix2 p q) = min hiX (max loX (v (ix2 p q) * invOf (fieldOf (amax (fun r => v (ix2 r q)) * cX)))) := by
  rw [← fieldX, ← loX_bf16, ← hiX_bf16]
  unfold codeX
  pointwise [k0_pay9, k0_pay8, k0_pay6, k0_pay4]
  rfl
theorem codeY_apply (v : Vec Ideal S128x512 .bf16) (p : Fin 128) (q : Fin 512) :
    codeY v (ix2 p q) = min hiY (max loY (v (ix2 p q) * invOf (fieldOf (amax (fun r => v (ix2 r q)) * cY)))) := by
  rw [← fieldY, ← loY_bf16, ← hiY_bf16]
  unfold codeY
  pointwise [k0_pay190, k0_pay189, k0_pay187, k0_pay185]
  rfl

/-- The dequantised values of a group: the code times the scale. -/
theorem deqX_apply (v : Vec Ideal S128x512 .bf16) (p : Fin 128) (q : Fin 512) :
    deqX v (ix2 q p) = codeX v (ix2 p q) * scaleX v (ix2 0 q) := by
  unfold deqX codeX scaleX
  generalize k0_pay7 v = w
  pointwise [k0_pay10]
theorem deqY_apply (v : Vec Ideal S128x512 .bf16) (p : Fin 128) (q : Fin 512) :
    deqY v (ix2 p q) = codeY v (ix2 p q) * scaleY v (ix2 0 q) := by
  unfold deqY codeY scaleY
  generalize k0_pay188 v = w
  pointwise [k0_pay191]

/-! ## One block -/

/-- Column `q` of a block. -/
def colB (X : Vec Ideal S3072x512 .bf16) (q : Fin 512) (p : Fin 3072) : EReal := X (ix2 p q)

theorem group_apply (X : Vec Ideal S3072x512 .bf16) (g : Fin 24) (r : Fin 128) (q : Fin 512) :
    group X g (ix2 r q) = part (colB X q) g r := by
  show X _ = X _
  congr 1
  funext a
  refine Fin.ext ?_
  match a with
  | 0 => show 128 * g.val + 1 * r.val = g.val * 128 + r.val; omega
  | 1 => show 0 + 1 * q.val = q.val; omega

theorem group_row (X : Vec Ideal S3072x512 .bf16) (p : Fin 3072) (q : Fin 512) :
    group X (grp p) (ix2 ⟨p.val % 128, Nat.mod_lt _ (by omega)⟩ q) = X (ix2 p q) := by
  rw [group_apply]
  show X (ix2 _ q) = _
  congr 2
  exact Fin.ext (by show p.val / 128 * 128 + p.val % 128 = p.val; omega)

theorem scalesX_apply (X : Vec Ideal S3072x512 .bf16) (g : Fin 24) (q : Fin 512) :
    scalesX X (ix2 g q) = kScale cX (colB X q) g := by
  show scaleX (group X g) (ix2 0 q) = _
  rw [scaleX_apply]; simp only [group_apply]; rfl
theorem scalesY_apply (X : Vec Ideal S3072x512 .bf16) (g : Fin 24) (q : Fin 512) :
    scalesY X (ix2 g q) = kScale cY (colB X q) g := by
  show scaleY (group X g) (ix2 0 q) = _
  rw [scaleY_apply]; simp only [group_apply]; rfl

theorem codesX_apply (X : Vec Ideal S3072x512 .bf16) (p : Fin 3072) (q : Fin 512) :
    codesX X (ix2 p q) = kCode loX hiX cX (colB X q) p := by
  show codeX (group X (grp p)) (ix2 ⟨p.val % 128, Nat.mod_lt _ (by omega)⟩ q) = _
  rw [codeX_apply, group_row]; simp only [group_apply]; rfl
theorem codesY_apply (X : Vec Ideal S3072x512 .bf16) (p : Fin 3072) (q : Fin 512) :
    codesY X (ix2 p q) = kCode loY hiY cY (colB X q) p := by
  show codeY (group X (grp p)) (ix2 ⟨p.val % 128, Nat.mod_lt _ (by omega)⟩ q) = _
  rw [codeY_apply, group_row]; simp only [group_apply]; rfl

theorem deqsX_apply (X : Vec Ideal S3072x512 .bf16) (p : Fin 3072) (q : Fin 512) :
    deqsX X (ix2 q p) = kDeq loX hiX cX (colB X q) p := by
  show deqX (group X (grp p)) (ix2 q ⟨p.val % 128, Nat.mod_lt _ (by omega)⟩) = _
  rw [deqX_apply]
  exact congrArg₂ (· * ·) (codesX_apply X p q) (scalesX_apply X (grp p) q)
theorem deqsY_apply (X : Vec Ideal S3072x512 .bf16) (p : Fin 3072) (q : Fin 512) :
    deqsY X (ix2 p q) = kDeq loY hiY cY (colB X q) p := by
  show deqY (group X (grp p)) (ix2 ⟨p.val % 128, Nat.mod_lt _ (by omega)⟩ q) = _
  rw [deqY_apply]
  exact congrArg₂ (· * ·) (codesY_apply X p q) (scalesY_apply X (grp p) q)

/-- An output block. -/
theorem outB_apply (X : Vec Ideal S3072x512 .bf16) (M : Vec Ideal S512x512 .f32) (Y : Vec Ideal S3072x512 .bf16) (p q : Fin 512) :
    k0_pay3 (deqsX X) M (deqsY Y) (ix2 p q)
      = M (ix2 p q) + ∑ k : Fin 3072, kDeq loX hiX cX (colB X p) k * kDeq loY hiY cY (colB Y q) k := by
  pointwise [k0_pay3]
  simp only [deqsX_apply, deqsY_apply]

end Cert.KernelIdeal.Hand

end
-- ==== Proof.Val.Columns.lean ====
module

/- The columns of the two operands as launched, the five results in terms of them, and the equality of the kernel's and the
   reference's. -/
public import proofs.«01_k».proof.Proof.Val.Spec
public import Idealize.ShloMosaic.Lib.Pointwise

@[expose] public section

noncomputable section

namespace Cert.Scale

open Idealize.ShloMosaic

/-- The shapes of the arguments and of the results. -/
abbrev SX : Shape := ⟨3, ![1, 3072, 3584]⟩
abbrev SY : Shape := ⟨3, ![1, 3072, 7168]⟩
abbrev SX2 : Shape := ⟨2, ![3072, 3584]⟩
abbrev SY2 : Shape := ⟨2, ![3072, 7168]⟩
abbrev SXs : Shape := ⟨2, ![24, 3584]⟩
abbrev SYs : Shape := ⟨2, ![24, 7168]⟩
abbrev SO : Shape := ⟨2, ![3584, 7168]⟩

/-- Column `q` of `x` and of `dy`. -/
def argX (x : SX.Idx → EReal) (q : Fin 3584) (p : Fin 3072) : EReal := x (ix3 0 p q)
def argY (y : SY.Idx → EReal) (q : Fin 7168) (p : Fin 3072) : EReal := y (ix3 0 p q)

/-- The operands without the leading axis of length one. -/
theorem flatX (x : FVec Ideal SX .bf16) (h : SX.ShapeCasts SX2) (p : Fin 3072) (q : Fin 3584) :
    shapeCast SX2 x h (ix2 p q) = argX x q p := by
  pointwise
  rfl
theorem flatY (x : FVec Ideal SY .bf16) (h : SY.ShapeCasts SY2) (p : Fin 3072) (q : Fin 7168) :
    shapeCast SY2 x h (ix2 p q) = argY x q p := by
  pointwise
  rfl

/-- To show something of every index of a matrix, show it of every row and column. -/
theorem cells {n k : ℕ} {P : (Shape.mk 2 ![n, k]).Idx → Prop} (h : ∀ (p : Fin n) (q : Fin k), P (ix2 p q)) : ∀ y, P y :=
  fun y => eq_ix2 y ▸ h _ _

/-! ## What the kernel ends with -/

def kOut (x : SX.Idx → EReal) (y : SY.Idx → EReal) (M : SO.Idx → EReal) (i : SO.Idx) : EReal :=
  M i + ∑ k : Fin 3072, kDeq loX hiX cX (argX x (i 0)) k * kDeq loY hiY cY (argY y (i 1)) k
def kCodesX (x : SX.Idx → EReal) (i : SX2.Idx) : EReal := kCode loX hiX cX (argX x (i 1)) (i 0)
def kScalesX (x : SX.Idx → EReal) (i : SXs.Idx) : EReal := kScale cX (argX x (i 1)) (i 0)
def kCodesY (y : SY.Idx → EReal) (i : SY2.Idx) : EReal := kCode loY hiY cY (argY y (i 1)) (i 0)
def kScalesY (y : SY.Idx → EReal) (i : SYs.Idx) : EReal := kScale cY (argY y (i 1)) (i 0)

/-! ## What the reference ends with; `L` is the logarithm of two -/

def rOut (L : EReal) (x : SX.Idx → EReal) (y : SY.Idx → EReal) (M : SO.Idx → EReal) (i : SO.Idx) : EReal :=
  M i + ∑ k : Fin 3072, rDeq L loX hiX cX (argX x (i 0)) k * rDeq L loY hiY cY (argY y (i 1)) k
def rCodesX (L : EReal) (x : SX.Idx → EReal) (i : SX2.Idx) : EReal := rCode L loX hiX cX (argX x (i 1)) (i 0)
def rScalesX (L : EReal) (x : SX.Idx → EReal) (i : SXs.Idx) : EReal := rScale L cX (argX x (i 1)) (i 0)
def rCodesY (L : EReal) (y : SY.Idx → EReal) (i : SY2.Idx) : EReal := rCode L loY hiY cY (argY y (i 1)) (i 0)
def rScalesY (L : EReal) (y : SY.Idx → EReal) (i : SYs.Idx) : EReal := rScale L cY (argY y (i 1)) (i 0)

/-! ## They are equal -/

section
variable {L : EReal} (hL : L = ((Real.log 2 : ℝ) : EReal)) {x : SX.Idx → EReal} {y : SY.Idx → EReal}
  (hx : ∀ q p, InRange (argX x q p)) (hy : ∀ q p, InRange (argY y q p))
include hL

include hx in
theorem scalesX_eq : kScalesX x = rScalesX L x := funext fun i => kScale_eq (consts_X hL) (hx (i 1)) (i 0)
include hx in
theorem codesX_eq : kCodesX x = rCodesX L x := funext fun i => kCode_eq (consts_X hL) (hx (i 1)) (i 0)
include hy in
theorem scalesY_eq : kScalesY y = rScalesY L y := funext fun i => kScale_eq (consts_Y hL) (hy (i 1)) (i 0)
include hy in
theorem codesY_eq : kCodesY y = rCodesY L y := funext fun i => kCode_eq (consts_Y hL) (hy (i 1)) (i 0)
include hx hy in
theorem out_eq (M : SO.Idx → EReal) : kOut x y M = rOut L x y M := funext fun i => by
  unfold kOut rOut
  refine congrArg (M i + ·) (Finset.sum_congr rfl fun k _ => ?_)
  exact congrArg₂ (· * ·) (kDeq_eq (consts_X hL) (hx (i 0)) k) (kDeq_eq (consts_Y hL) (hy (i 1)) k)
end

end Cert.Scale

end
-- ==== Proof.Val.KernelArrays.lean ====
module

/- The arrays the kernel ends with, element by element, from its arguments as launched. -/
public import proofs.«01_k».proof.Proof.Body.Run
public import proofs.«01_k».proof.Proof.Val.Kernel
public import proofs.«01_k».proof.Proof.Val.Columns
public import Idealize.ShloMosaic.Lib.Pipeline.Value
public import Idealize.ShloMosaic.Lib.Pipeline.ValueKit
public import Idealize.ShloMosaic.Lib.Tactic

@[expose] public section

set_option maxRecDepth 16384

noncomputable section

namespace Cert.KernelIdeal.Hand

open Cert.KernelIdeal Cert.KernelIdeal.Gen Idealize.ShloMosaic Cert.Scale Idealize.SL.Sem
open Idealize.ShloMosaic.TcCoe Idealize.ShloMosaic.Tactic
open Idealize.ShloMosaic.Pipeline (Dat Cfg Window)

variable (m : (ℓ : Loc nD τ sig) → Buf (Elt Ideal) ℓ) (ρ : Dev nD → PrngReg)

/-! ## The operands as the kernel finds them: the arguments, the leading axis of length one gone -/

theorem V_main_v0 (c : Dev nD) : V m c main_v0 = shapeCast S3072x3584 (m ((c : Thread nD τ).loc main_arg0)) shapeCasts_S1x3072x3584_S3072x3584 := by
  show StableHlo.after hostOps0 _ (Proc.devRef .tc main_v0) = _
  after_results
  rfl
theorem V_main_v1 (c : Dev nD) : V m c main_v1 = shapeCast S3072x7168 (m ((c : Thread nD τ).loc main_arg1)) shapeCasts_S1x3072x7168_S3072x7168 := by
  show StableHlo.after hostOps0 _ (Proc.devRef .tc main_v1) = _
  after_results
  rfl

/-- A column of a block is a column of the operand. -/
theorem colB_x (c : Dev nD) (k : Fin 7) (q : Fin 512) :
    colB (xB m c k) q = argX (m ((c : Thread nD τ).loc main_arg0)) ⟨512 * k.val + q.val, by omega⟩ := by
  funext p
  show V m c main_v0 (ix2 p _) = _
  rw [V_main_v0]
  exact flatX _ _ p _
theorem colB_y (c : Dev nD) (t : Fin cfg0.N) (q : Fin 512) :
    colB (yB m c t) q = argY (m ((c : Thread nD τ).loc main_arg1)) ⟨512 * (yAt t).val + q.val, by omega⟩ := by
  funext p
  show V m c main_v1 (ix2 p _) = _
  rw [V_main_v1]
  exact flatY _ _ p _

/-! ## Where an element of a block lies in the array -/

theorem emb0_3 (t : Fin cfg0.N) (p q : Fin 512) : (win0_3.blk t).view.emb (ix2 p q)
    = (ix2 ⟨512 * (iAt t).val + p.val, by omega⟩ ⟨512 * (yAt t).val + q.val, by omega⟩ : S3584x7168.Idx) := by
  blk_ext [index0_3]
theorem emb0_4 (t : Fin cfg0.N) (p : Fin 3072) (q : Fin 512) : (win0_4.blk t).view.emb (ix2 p q)
    = (ix2 p ⟨512 * (xAt t).val + q.val, by omega⟩ : (Shape.mk 2 ![3072, 3584]).Idx) := by
  blk_ext [index0_4]
theorem emb0_5 (t : Fin cfg0.N) (p : Fin 24) (q : Fin 512) : (win0_5.blk t).view.emb (ix2 p q)
    = (ix2 p ⟨512 * (xAt t).val + q.val, by omega⟩ : (Shape.mk 2 ![24, 3584]).Idx) := by
  blk_ext [index0_5]
theorem emb0_6 (t : Fin cfg0.N) (p : Fin 3072) (q : Fin 512) : (win0_6.blk t).view.emb (ix2 p q)
    = (ix2 p ⟨512 * (yAt t).val + q.val, by omega⟩ : (Shape.mk 2 ![3072, 7168]).Idx) := by
  blk_ext [index0_6]
theorem emb0_7 (t : Fin cfg0.N) (p : Fin 24) (q : Fin 512) : (win0_7.blk t).view.emb (ix2 p q)
    = (ix2 p ⟨512 * (yAt t).val + q.val, by omega⟩ : (Shape.mk 2 ![24, 7168]).Idx) := by
  blk_ext [index0_7]

/-! ## The results -/

theorem final0_3 (c : Dev nD) : (dats m 0 c).arrAt 3 cfg0.N = kOut (m ((c : Thread nD τ).loc main_arg0)) (m ((c : Thread nD τ).loc main_arg1)) (m ((c : Thread nD τ).loc main_arg2)) := by
  refine (dats m 0 c).arrAt_eq_of_covers 3 _ (by decide +kernel) fun t hf (y : S512x512.Idx) => ?_
  blk_simp
  rw [after0_3]
  revert y
  exact cells fun p q => by rw [emb0_3, outAt, outB_apply, colB_x, colB_y]; rfl
theorem final0_4 (c : Dev nD) : (dats m 0 c).arrAt 4 cfg0.N = kCodesX (m ((c : Thread nD τ).loc main_arg0)) := by
  refine (dats m 0 c).arrAt_eq_of_covers 4 _ (by decide +kernel) fun t hf (y : S3072x512.Idx) => ?_
  blk_simp
  rw [after0_4]
  revert y
  exact cells fun p q => by rw [emb0_4, codesX_apply, colB_x]; rfl
theorem final0_5 (c : Dev nD) : (dats m 0 c).arrAt 5 cfg0.N = kScalesX (m ((c : Thread nD τ).loc main_arg0)) := by
  refine (dats m 0 c).arrAt_eq_of_covers 5 _ (by decide +kernel) fun t hf (y : S24x512.Idx) => ?_
  blk_simp
  rw [after0_5]
  revert y
  exact cells fun p q => by rw [emb0_5, scalesX_apply, colB_x]; rfl
theorem final0_6 (c : Dev nD) : (dats m 0 c).arrAt 6 cfg0.N = kCodesY (m ((c : Thread nD τ).loc main_arg1)) := by
  refine (dats m 0 c).arrAt_eq_of_covers 6 _ (by decide +kernel) fun t hf (y : S3072x512.Idx) => ?_
  blk_simp
  rw [after0_6]
  revert y
  exact cells fun p q => by rw [emb0_6, codesY_apply, colB_y]; rfl
theorem final0_7 (c : Dev nD) : (dats m 0 c).arrAt 7 cfg0.N = kScalesY (m ((c : Thread nD τ).loc main_arg1)) := by
  refine (dats m 0 c).arrAt_eq_of_covers 7 _ (by decide +kernel) fun t hf (y : S24x512.Idx) => ?_
  blk_simp
  rw [after0_7]
  revert y
  exact cells fun p q => by rw [emb0_7, scalesY_apply, colB_y]; rfl

/-- The run: the five results, and the arguments unchanged. -/
theorem run : θ_run (defs (F := Ideal)) (onTc (τ := τ) (main (F := Ideal))) ⟨m, fun _ => 0, ρ⟩ (fun r => ∀ c : Dev nD,
      r.2.mem ((c.tc : Thread nD τ).loc main_v2_0) = kOut (m ((c : Thread nD τ).loc main_arg0)) (m ((c : Thread nD τ).loc main_arg1)) (m ((c : Thread nD τ).loc main_arg2))
      ∧ r.2.mem ((c.tc : Thread nD τ).loc main_v2_1) = kCodesX (m ((c : Thread nD τ).loc main_arg0))
      ∧ r.2.mem ((c.tc : Thread nD τ).loc main_v2_2) = kScalesX (m ((c : Thread nD τ).loc main_arg0))
      ∧ r.2.mem ((c.tc : Thread nD τ).loc main_v2_3) = kCodesY (m ((c : Thread nD τ).loc main_arg1))
      ∧ r.2.mem ((c.tc : Thread nD τ).loc main_v2_4) = kScalesY (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main (F := Ideal) m ρ)
  exact ⟨((h c).1 3).trans (final0_3 m c), ((h c).1 4).trans (final0_4 m c), ((h c).1 5).trans (final0_5 m c),
    ((h c).1 6).trans (final0_6 m c), ((h c).1 7).trans (final0_7 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c)))⟩

end Cert.KernelIdeal.Hand

end
-- ==== Proof.Val.Reference.lean ====
module

/- What the reference computes, at exact arithmetic: each column of an operand quantised in groups of 128 rows as
   `Cert.Scale` says, and the main gradient plus the product of the dequantised operands. -/
public import proofs.«01_k».proof.Proof.Gen.ReferenceIdeal.Frame
public import proofs.«01_k».proof.Proof.Val.Spec
public import Idealize.ShloMosaic.Lib.Pointwise

@[expose] public section

set_option maxRecDepth 16384

noncomputable section

namespace Cert.ReferenceIdeal.Hand

open Cert.ReferenceIdeal Cert.ReferenceIdeal.Gen Idealize.ShloMosaic Cert.Scale

/-- The logarithm of two the reference divides by. -/
def ln2 : EReal := (Named.named κ "ln2" 0x3F317218#32 : Ideal .f32)

theorem ln2_eq : ln2 = ((Real.log 2 : ℝ) : EReal) := by
  unfold ln2
  simp [Named.named, κ]

/-! ## The operations without indices -/

theorem exp2_apply (S : Shape) (w : FVec Ideal S .f32) (y : S.Idx) : exp2 w y = Ideal.exp2 (w y) := rfl

/-- The power of two an element is divided by, from the exponent. -/
theorem inv_apply (S : Shape) (w : FVec Ideal S .f32) (y : S.Idx) :
    exp2 (subf (broadcast S (FloatOps.ofBits (F := Ideal) .f32 0x00000000#32)) w) y = Ideal.exp2 (0 - w y) := by
  pointwise
  rfl

/-- Scaling, then cutting off at the largest code. -/
theorem clip_apply (S : Shape) (e : FTy) (h : e.bits < FTy.f32.bits) (lo hi : BitVec 32) (v w : FVec Ideal S .f32) (y : S.Idx) :
    truncf e (minimumf (broadcast S (FloatOps.ofBits (F := Ideal) .f32 hi)) (maximumf (broadcast S (FloatOps.ofBits (F := Ideal) .f32 lo)) (mulf v w))) h y
      = min (Ideal.ofBits .f32 hi) (max (Ideal.ofBits .f32 lo) (v y * w y)) := by
  pointwise

/-! ## The exponents, from the groups' largest absolute values -/

/-- The exponents of the scales, over an array of largest absolute values. -/
def expRow (S : Shape) (c : BitVec 32) (s : FVec Ideal S .f32) : FVec Ideal S .f32 :=
  let b (x : BitVec 32) : FVec Ideal S .f32 := broadcast S (Scalar.ofBits (F := Ideal) .f32 x)
  let t := mulf s (b c)
  let u := select (cmpf .olt t (b 0x00800000#32)) (b 0#32) t
  select (cmpf .oeq s (b 0#32)) (b 0#32)
    (select (ori (cmpf .oeq u (b 0#32)) (cmpf .oeq u (b 0x7F800000#32))) (b 0#32)
      (addf (floor (divf (log u) (broadcast S (Named.named κ "ln2" 0x3F317218#32 : Ideal .f32)))) (b 0x3F800000#32)))

theorem expRow_apply (S : Shape) (c : BitVec 32) (s : FVec Ideal S .f32) (y : S.Idx) :
    expRow S c s y = expOf ln2 (s y) (Ideal.ofBits .f32 c) := by
  pointwise [expRow]
  unfold expOf flush ln2
  rfl
/-! ## The operand of 3584 columns -/

/-- Column `q` of the operand. -/
def colX (X : Vec Ideal S3072x3584 .bf16) (q : Fin 3584) (p : Fin 3072) : EReal := X (ix2 p q)

theorem castSelfX (v : Vec Ideal S3072x3584 .bf16) : shapeCast S3072x3584 v shapeCasts_S3072x3584_S3072x3584 = v := by
  pointwise

/-- The operand cut into groups. -/
theorem cutX (v : Vec Ideal S3072x3584 .bf16) (g : Fin 24) (r : Fin 128) (q : Fin 3584) :
    k0_pay2 v (ix3 g r q) = part (colX v q) g r := by
  unfold k0_pay2
  rw [castSelfX]
  pointwise
  rfl

/-- The largest absolute value of each group. -/
theorem maxX (w : FVec Ideal S24x128x3584 .f32) (g : Fin 24) (q : Fin 3584) :
    multiReduction .maximumf [1] S24x3584 (absf w) 0xFF800000#32 reduces_S24x128x3584_S24x3584 (.inl rfl) rfl (ix2 g q)
      = amax fun r => w (ix3 g r q) := by
  pointwise
  rfl

/-- The exponents of the scales. -/
theorem expX (v : Vec Ideal S3072x3584 .bf16) (g : Fin 24) (q : Fin 3584) :
    k0_pay3 v (ix2 g q) = expOf ln2 (amax (part (colX v q) g)) cX := by
  have h : k0_pay3 v = expRow S24x3584 0x3B124925#32 (multiReduction .maximumf [1] S24x3584 (absf (k0_pay2 v)) 0xFF800000#32 reduces_S24x128x3584_S24x3584 (.inl rfl) rfl) := by
    dsimp only [k0_pay3, expRow]
  rw [h, expRow_apply, maxX]
  simp only [cutX]
  rfl

/-- The scales. -/
theorem scalesX_apply (v : Vec Ideal S3072x3584 .bf16) (g : Fin 24) (q : Fin 3584) :
    k0_pay4 v (ix2 g q) = rScale ln2 cX (colX v q) g := by
  unfold k0_pay4
  rw [exp2_apply, expX]; rfl

/-- One number per group and column, given to every row of the group. -/
theorem spreadX (w : FVec Ideal S24x3584 .f32) (g : Fin 24) (r : Fin 128) (q : Fin 3584) :
    broadcastTo S24x128x3584 (shapeCast S24x1x3584 w shapeCasts_S24x3584_S24x1x3584) broadcasts_S24x1x3584_S24x128x3584 (ix3 g r q)
      = w (ix2 g q) := by
  pointwise

/-- The groups put back under one another. -/
theorem joinX (w : FVec Ideal S24x128x3584 .fp8e4m3) (p : Fin 3072) (q : Fin 3584) :
    shapeCast S3072x3584 w shapeCasts_S24x128x3584_S3072x3584 (ix2 p q) = w (ix3 (grp p) ⟨p.val % 128, Nat.mod_lt _ (by omega)⟩ q) := by
  pointwise
  rfl

theorem part_grpX (v : Vec Ideal S3072x3584 .bf16) (p : Fin 3072) (q : Fin 3584) :
    part (colX v q) (grp p) ⟨p.val % 128, Nat.mod_lt _ (by omega)⟩ = colX v q p := by
  unfold part
  refine congrArg _ (Fin.ext ?_)
  show p.val / 128 * 128 + p.val % 128 = p.val
  omega

/-- The codes. -/
theorem codesX_apply (v : Vec Ideal S3072x3584 .bf16) (p : Fin 3072) (q : Fin 3584) :
    k0_pay5 v (ix2 p q) = rCode ln2 loX hiX cX (colX v q) p := by
  unfold k0_pay5
  rw [joinX]
  rw [clip_apply, spreadX, cutX, part_grpX, inv_apply, expX]
  rfl

/-! ## The operand of 7168 columns -/

/-- Column `q` of the operand. -/
def colY (X : Vec Ideal S3072x7168 .bf16) (q : Fin 7168) (p : Fin 3072) : EReal := X (ix2 p q)

theorem castSelfY (v : Vec Ideal S3072x7168 .bf16) : shapeCast S3072x7168 v shapeCasts_S3072x7168_S3072x7168 = v := by
  pointwise

/-- The operand cut into groups. -/
theorem cutY (v : Vec Ideal S3072x7168 .bf16) (g : Fin 24) (r : Fin 128) (q : Fin 7168) :
    k0_pay6 v (ix3 g r q) = part (colY v q) g r := by
  unfold k0_pay6
  rw [castSelfY]
  pointwise
  rfl

/-- The largest absolute value of each group. -/
theorem maxY (w : FVec Ideal S24x128x7168 .f32) (g : Fin 24) (q : Fin 7168) :
    multiReduction .maximumf [1] S24x7168 (absf w) 0xFF800000#32 reduces_S24x128x7168_S24x7168 (.inl rfl) rfl (ix2 g q)
      = amax fun r => w (ix3 g r q) := by
  pointwise
  rfl

/-- The exponents of the scales. -/
theorem expY (v : Vec Ideal S3072x7168 .bf16) (g : Fin 24) (q : Fin 7168) :
    k0_pay7 v (ix2 g q) = expOf ln2 (amax (part (colY v q) g)) cY := by
  have h : k0_pay7 v = expRow S24x7168 0x37924925#32 (multiReduction .maximumf [1] S24x7168 (absf (k0_pay6 v)) 0xFF800000#32 reduces_S24x128x7168_S24x7168 (.inl rfl) rfl) := by
    dsimp only [k0_pay7, expRow]
  rw [h, expRow_apply, maxY]
  simp only [cutY]
  rfl

/-- The scales. -/
theorem scalesY_apply (v : Vec Ideal S3072x7168 .bf16) (g : Fin 24) (q : Fin 7168) :
    k0_pay8 v (ix2 g q) = rScale ln2 cY (colY v q) g := by
  unfold k0_pay8
  rw [exp2_apply, expY]; rfl

/-- One number per group and column, given to every row of the group. -/
theorem spreadY (w : FVec Ideal S24x7168 .f32) (g : Fin 24) (r : Fin 128) (q : Fin 7168) :
    broadcastTo S24x128x7168 (shapeCast S24x1x7168 w shapeCasts_S24x7168_S24x1x7168) broadcasts_S24x1x7168_S24x128x7168 (ix3 g r q)
      = w (ix2 g q) := by
  pointwise

/-- The groups put back under one another. -/
theorem joinY (w : FVec Ideal S24x128x7168 .fp8e5m2) (p : Fin 3072) (q : Fin 7168) :
    shapeCast S3072x7168 w shapeCasts_S24x128x7168_S3072x7168 (ix2 p q) = w (ix3 (grp p) ⟨p.val % 128, Nat.mod_lt _ (by omega)⟩ q) := by
  pointwise
  rfl

theorem part_grpY (v : Vec Ideal S3072x7168 .bf16) (p : Fin 3072) (q : Fin 7168) :
    part (colY v q) (grp p) ⟨p.val % 128, Nat.mod_lt _ (by omega)⟩ = colY v q p := by
  unfold part
  refine congrArg _ (Fin.ext ?_)
  show p.val / 128 * 128 + p.val % 128 = p.val
  omega

/-- The codes. -/
theorem codesY_apply (v : Vec Ideal S3072x7168 .bf16) (p : Fin 3072) (q : Fin 7168) :
    k0_pay9 v (ix2 p q) = rCode ln2 loY hiY cY (colY v q) p := by
  unfold k0_pay9
  rw [joinY]
  rw [clip_apply, spreadY, cutY, part_grpY, inv_apply, expY]
  rfl

/-! ## The result -/

/-- The main gradient plus the product of the operands' dequantised values. -/
theorem out_apply (X : Vec Ideal S3072x3584 .bf16) (Y : Vec Ideal S3072x7168 .bf16) (M : Vec Ideal S3584x7168 .f32)
    (p : Fin 3584) (q : Fin 7168) :
    k0_pay1 (k0_pay8 Y) (k0_pay9 Y) (k0_pay10 (k0_pay5 X)) (k0_pay11 (k0_pay4 X)) M (ix2 p q)
      = M (ix2 p q) + ∑ k : Fin 3072, rDeq ln2 loX hiX cX (colX X p) k * rDeq ln2 loY hiY cY (colY Y q) k := by
  have h (a : FVec Ideal S24x7168 .f32) (b : FVec Ideal S3072x7168 .fp8e5m2) (c : FVec Ideal S3072x3584 .fp8e4m3) (d : FVec Ideal S24x3584 .f32) :
      k0_pay1 a b (k0_pay10 c) (k0_pay11 d) M (ix2 p q)
        = M (ix2 p q) + ∑ k : Fin 3072, c (ix2 k p) * d (ix2 (grp k) p) * (b (ix2 k q) * a (ix2 (grp k) q)) := by
    pointwise [k0_pay1, k0_pay10, k0_pay11]
    rfl
  rw [h]
  simp only [scalesX_apply, scalesY_apply, codesX_apply, codesY_apply]
  rfl

end Cert.ReferenceIdeal.Hand

end
-- ==== Proof.Val.RefArrays.lean ====
module

/- The arrays the reference ends with, element by element, from its arguments as launched. -/
public import proofs.«01_k».proof.Proof.Val.Reference
public import proofs.«01_k».proof.Proof.Val.Columns
public import Idealize.ShloMosaic.Lib.Pipeline.Value
public import Idealize.ShloMosaic.Lib.Pipeline.ValueKit
public import Idealize.ShloMosaic.Lib.Tactic

@[expose] public section

set_option maxRecDepth 16384

noncomputable section

namespace Cert.ReferenceIdeal.Hand

open Cert.ReferenceIdeal Cert.ReferenceIdeal.Gen Idealize.ShloMosaic Cert.Scale Idealize.SL.Sem
open Idealize.ShloMosaic.TcCoe Idealize.ShloMosaic.Tactic
open Idealize.ShloMosaic.Pipeline (Dat Cfg Window)

variable (m : (ℓ : Loc nD τ sig) → Buf (Elt Ideal) ℓ) (ρ : Dev nD → PrngReg)

/-! ## The operands as the kernel finds them: the arguments, the leading axis of length one gone -/

theorem V_main_v0 (c : Dev nD) : V m c main_v0 = shapeCast S3072x3584 (m ((c : Thread nD τ).loc main_arg0)) shapeCasts_S1x3072x3584_S3072x3584 := by
  show StableHlo.after hostOps0 _ (Proc.devRef .tc main_v0) = _
  after_results
  rfl
theorem V_main_v1 (c : Dev nD) : V m c main_v1 = shapeCast S3072x7168 (m ((c : Thread nD τ).loc main_arg1)) shapeCasts_S1x3072x7168_S3072x7168 := by
  show StableHlo.after hostOps0 _ (Proc.devRef .tc main_v1) = _
  after_results
  rfl

theorem colX_V (c : Dev nD) (q : Fin 3584) : colX (V m c main_v0) q = argX (m ((c : Thread nD τ).loc main_arg0)) q := by
  funext p
  show V m c main_v0 (ix2 p q) = _
  rw [V_main_v0]
  exact flatX _ _ p q
theorem colY_V (c : Dev nD) (q : Fin 7168) : colY (V m c main_v1) q = argY (m ((c : Thread nD τ).loc main_arg1)) q := by
  funext p
  show V m c main_v1 (ix2 p q) = _
  rw [V_main_v1]
  exact flatY _ _ p q

/-! ## The one grid point: each window is its whole array -/

theorem emb0_0 (t : Fin cfg0.N) (y : S3072x3584.Idx) : (win0_0.blk t).view.emb y = y := by
  blk_ext [show win0_0.index t = fun _ => 0 from rfl]
theorem emb0_1 (t : Fin cfg0.N) (y : S3072x7168.Idx) : (win0_1.blk t).view.emb y = y := by
  blk_ext [show win0_1.index t = fun _ => 0 from rfl]
theorem emb0_2 (t : Fin cfg0.N) (y : S3584x7168.Idx) : (win0_2.blk t).view.emb y = y := by
  blk_ext [show win0_2.index t = fun _ => 0 from rfl]
theorem emb0_3 (t : Fin cfg0.N) (y : S3584x7168.Idx) : (win0_3.blk t).view.emb y = y := by
  blk_ext [show win0_3.index t = fun _ => 0 from rfl]
theorem emb0_4 (t : Fin cfg0.N) (y : S3072x3584.Idx) : (win0_4.blk t).view.emb y = y := by
  blk_ext [show win0_4.index t = fun _ => 0 from rfl]
theorem emb0_5 (t : Fin cfg0.N) (y : S24x3584.Idx) : (win0_5.blk t).view.emb y = y := by
  blk_ext [show win0_5.index t = fun _ => 0 from rfl]
theorem emb0_6 (t : Fin cfg0.N) (y : S3072x7168.Idx) : (win0_6.blk t).view.emb y = y := by
  blk_ext [show win0_6.index t = fun _ => 0 from rfl]
theorem emb0_7 (t : Fin cfg0.N) (y : S24x7168.Idx) : (win0_7.blk t).view.emb y = y := by
  blk_ext [show win0_7.index t = fun _ => 0 from rfl]

theorem blk0_0 (c : Dev nD) (t : Fin cfg0.N) : iblk m c 0 t = V m c main_v0 := funext fun y => by
  show V m c main_v0 ((win0_0.blk t).view.emb y) = _
  rw [emb0_0]
theorem blk0_1 (c : Dev nD) (t : Fin cfg0.N) : iblk m c 1 t = V m c main_v1 := funext fun y => by
  show V m c main_v1 ((win0_1.blk t).view.emb y) = _
  rw [emb0_1]
theorem blk0_2 (c : Dev nD) (t : Fin cfg0.N) : iblk m c 2 t = V m c main_arg2 := funext fun y => by
  show V m c main_arg2 ((win0_2.blk t).view.emb y) = _
  rw [emb0_2]

theorem hz (n k : ℕ) : (![0, 0] : Fin (Shape.mk 2 ![n, k]).rank → ℕ) = fun _ => 0 := funext fun a => match a with | 0 => rfl | 1 => rfl

/-! ## What the body leaves in each result's buffer -/

section
variable (x : Vec Ideal S3072x3584 .bf16) (y : Vec Ideal S3072x7168 .bf16) (M : Vec Ideal S3584x7168 .f32)

theorem out0_3_eq : out0_3 x y M = k0_pay1 (k0_pay8 y) (k0_pay9 y) (k0_pay10 (k0_pay5 x)) (k0_pay11 (k0_pay4 x)) M := by
  unfold out0_3 k0_pay12 k0_pay13 k0_pay14 k0_pay15
  rw [View.canon_unit_zero (hz 3584 7168), View.ld_unit_zero (hz 3072 3584), View.ld_unit_zero (hz 3072 7168), View.ld_unit_zero (hz 3584 7168)]
theorem out0_4_eq : out0_4 x y M = k0_pay5 x := by
  unfold out0_4 k0_pay13
  rw [View.canon_unit_zero (hz 3072 3584), View.ld_unit_zero (hz 3072 3584)]
theorem out0_5_eq : out0_5 x y M = k0_pay4 x := by
  unfold out0_5 k0_pay12
  rw [View.canon_unit_zero (hz 24 3584), View.ld_unit_zero (hz 3072 3584)]
theorem out0_6_eq : out0_6 x y M = k0_pay9 y := by
  unfold out0_6 k0_pay15
  rw [View.canon_unit_zero (hz 3072 7168), View.ld_unit_zero (hz 3072 7168)]
theorem out0_7_eq : out0_7 x y M = k0_pay8 y := by
  unfold out0_7 k0_pay14
  rw [View.canon_unit_zero (hz 24 7168), View.ld_unit_zero (hz 3072 7168)]
end

/-! ## The results -/

theorem final0_3 (c : Dev nD) : (dats m 0 c).arrAt 3 cfg0.N = rOut ln2 (m ((c : Thread nD τ).loc main_arg0)) (m ((c : Thread nD τ).loc main_arg1)) (m ((c : Thread nD τ).loc main_arg2)) := by
  refine (dats m 0 c).arrAt_eq_of_covers 3 _ (by decide +kernel) fun t hf (y : S3584x7168.Idx) => ?_
  blk_simp
  rw [after0_3, out0_3_eq, blk0_0, blk0_1, blk0_2, emb0_3]
  revert y
  exact cells fun p q => by rw [out_apply, colX_V, colY_V, V_main_arg2]; rfl
theorem final0_4 (c : Dev nD) : (dats m 0 c).arrAt 4 cfg0.N = rCodesX ln2 (m ((c : Thread nD τ).loc main_arg0)) := by
  refine (dats m 0 c).arrAt_eq_of_covers 4 _ (by decide +kernel) fun t hf (y : S3072x3584.Idx) => ?_
  blk_simp
  rw [after0_4, out0_4_eq, blk0_0, emb0_4]
  revert y
  exact cells fun p q => by rw [codesX_apply, colX_V]; rfl
theorem final0_5 (c : Dev nD) : (dats m 0 c).arrAt 5 cfg0.N = rScalesX ln2 (m ((c : Thread nD τ).loc main_arg0)) := by
  refine (dats m 0 c).arrAt_eq_of_covers 5 _ (by decide +kernel) fun t hf (y : S24x3584.Idx) => ?_
  blk_simp
  rw [after0_5, out0_5_eq, blk0_0, emb0_5]
  revert y
  exact cells fun p q => by rw [scalesX_apply, colX_V]; rfl
theorem final0_6 (c : Dev nD) : (dats m 0 c).arrAt 6 cfg0.N = rCodesY ln2 (m ((c : Thread nD τ).loc main_arg1)) := by
  refine (dats m 0 c).arrAt_eq_of_covers 6 _ (by decide +kernel) fun t hf (y : S3072x7168.Idx) => ?_
  blk_simp
  rw [after0_6, out0_6_eq, blk0_1, emb0_6]
  revert y
  exact cells fun p q => by rw [codesY_apply, colY_V]; rfl
theorem final0_7 (c : Dev nD) : (dats m 0 c).arrAt 7 cfg0.N = rScalesY ln2 (m ((c : Thread nD τ).loc main_arg1)) := by
  refine (dats m 0 c).arrAt_eq_of_covers 7 _ (by decide +kernel) fun t hf (y : S24x7168.Idx) => ?_
  blk_simp
  rw [after0_7, out0_7_eq, blk0_1, emb0_7]
  revert y
  exact cells fun p q => by rw [scalesY_apply, colY_V]; rfl

/-- The run: the five results, and the arguments unchanged. -/
theorem run : θ_run (defs (F := Ideal)) (onTc (τ := τ) (main (F := Ideal))) ⟨m, fun _ => 0, ρ⟩ (fun r => ∀ c : Dev nD,
      r.2.mem ((c.tc : Thread nD τ).loc main_v2_0) = rOut ln2 (m ((c : Thread nD τ).loc main_arg0)) (m ((c : Thread nD τ).loc main_arg1)) (m ((c : Thread nD τ).loc main_arg2))
      ∧ r.2.mem ((c.tc : Thread nD τ).loc main_v2_1) = rCodesX ln2 (m ((c : Thread nD τ).loc main_arg0))
      ∧ r.2.mem ((c.tc : Thread nD τ).loc main_v2_2) = rScalesX ln2 (m ((c : Thread nD τ).loc main_arg0))
      ∧ r.2.mem ((c.tc : Thread nD τ).loc main_v2_3) = rCodesY ln2 (m ((c : Thread nD τ).loc main_arg1))
      ∧ r.2.mem ((c.tc : Thread nD τ).loc main_v2_4) = rScalesY ln2 (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main (F := Ideal) m ρ)
  exact ⟨((h c).1 3).trans (final0_3 m c), ((h c).1 4).trans (final0_4 m c), ((h c).1 5).trans (final0_5 m c),
    ((h c).1 6).trans (final0_6 m c), ((h c).1 7).trans (final0_7 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c)))⟩

end Cert.ReferenceIdeal.Hand

end
-- ==== Proof.Val.Pre.lean ====
module

/- What the precondition says of one element of an operand. -/
public import proofs.«01_k».proof.Pre_in_range
public import proofs.«01_k».proof.Defs
public import proofs.«01_k».proof.Proof.Val.Columns
public import Idealize.ShloMosaic.Lib.Pointwise

@[expose] public section

noncomputable section

namespace Cert.Pre_in_range.Hand

open Cert.Pre_in_range Idealize.ShloMosaic Cert.Scale

/-- The shape relations of the precondition. -/
theorem facts : Cert.Pre_in_range.Facts where
  concatenates_S1x3072x3584_S1x3072x7168_S1x3072x10752_d2 := by decide
  bcast_S_S1x3072x10752 := by decide

theorem ofBits_inf_bf16 : Ideal.ofBits .bf16 0x7F80#16 = ⊤ := by
  rw [ofBits_bf16]; simp [Ideal.ieee]

/-- The comparison the precondition makes of one element. -/
def test (x : EReal) : BitVec 1 :=
  IntOp.ori (BitVec.ofBool (decide (max x (-x) ≤ Ideal.ofBits .bf16 0x7F7F#16))) (BitVec.ofBool (decide (max x (-x) = Ideal.ofBits .bf16 0x7F80#16)))

theorem inRange_of_test {x : EReal} (h : test x = 1#1) : InRange x := by
  unfold test at h
  rw [ofBits_inf_bf16] at h
  by_cases h1 : max x (-x) ≤ Ideal.ofBits .bf16 0x7F7F#16
  · exact Or.inl h1
  · by_cases h2 : max x (-x) = ⊤
    · exact Or.inr h2
    · rw [decide_eq_false h1, decide_eq_false h2] at h
      exact absurd h (by decide)

variable [Facts] (a : FVec Ideal S1x3072x3584 .bf16) (b : FVec Ideal S1x3072x7168 .bf16) (c : FVec Ideal S3584x7168 .f32)

/-- The precondition, element by element: it tests `x` in the first 3584 columns and `dy` in the others. -/
theorem fn_apply (p : Fin 3072) (q : Fin 10752) :
    fn a b c (ix3 0 p q) = test (if h : q.val < 3584 then argX a ⟨q.val, h⟩ p else argY b ⟨q.val - 3584, by omega⟩ p) := by
  pointwise [fn]
  rfl

theorem inRange_x (h : fn a b c = fun _ => 1#1) (q : Fin 3584) (p : Fin 3072) : InRange (argX a q p) := by
  have e := (fn_apply a b c p ⟨q.val, by omega⟩).symm.trans (congrFun h _)
  rw [dif_pos q.isLt] at e
  exact inRange_of_test e

theorem inRange_y (h : fn a b c = fun _ => 1#1) (q : Fin 7168) (p : Fin 3072) : InRange (argY b q p) := by
  have e := (fn_apply a b c p ⟨q.val + 3584, by omega⟩).symm.trans (congrFun h _)
  rw [dif_neg (by simp only []; omega)] at e
  have eq : (⟨(⟨q.val + 3584, by omega⟩ : Fin 10752).val - 3584, by simp only []; omega⟩ : Fin 7168) = q := Fin.ext (by simp only []; omega)
  rw [eq] at e
  exact inRange_of_test e

end Cert.Pre_in_range.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Body.Run
public import proofs.«01_k».proof.Proof.SameProgram
public import proofs.«01_k».proof.Proof.Val.KernelArrays
public import proofs.«01_k».proof.Proof.Val.RefArrays
public import proofs.«01_k».proof.Proof.Val.Pre
public import Idealize.ShloMosaic.Adequacy
public import Idealize.ShloMosaic.Init

@[expose] public section

noncomputable section

namespace Cert.Proof

open Idealize.ShloMosaic Idealize.SL.Sem Cert.Kernel Cert.Scale

/-- From arguments whose elements are values of bfloat16 the kernel and the reference end with the same five results, at
    exact arithmetic, and leave their arguments as they were. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Hand.facts) := by
  intro m g m' g' hpre hargs
  refine ⟨_, _, _, _, _, Cert.KernelIdeal.Hand.run m g, ?_⟩
  refine (θ_run _ _ _).mono (fun r h c => ?_) (Cert.ReferenceIdeal.Hand.run m' g')
  obtain ⟨e0, e1, e2⟩ := hargs c
  have hx := @Cert.Pre_in_range.Hand.inRange_x Cert.Pre_in_range.Hand.facts _ _ _ (hpre c)
  have hy := @Cert.Pre_in_range.Hand.inRange_y Cert.Pre_in_range.Hand.facts _ _ _ (hpre c)
  have hL := Cert.ReferenceIdeal.Hand.ln2_eq
  obtain ⟨h0, h1, h2, h3, h4, ha⟩ := h c
  rw [e0, e1, e2] at h0
  rw [e0] at h1 h2
  rw [e1] at h3 h4
  exact ⟨h0.trans (out_eq hL hx hy _).symm, h1.trans (codesX_eq hL hx).symm, h2.trans (scalesX_eq hL hx).symm,
    h3.trans (codesY_eq hL hy).symm, h4.trans (scalesY_eq hL hy).symm, ha⟩

/-- The three programs run to the end without a fault and leave their arguments and the semaphores as they were;
    the idealised kernel is the kernel; its results are the reference's. -/
theorem claim : Cert.Claim :=
  ⟨Cert.Kernel.Gen.facts, Cert.KernelIdeal.Gen.facts, Cert.ReferenceIdeal.Gen.facts, Cert.Pre_in_range.Hand.facts,
    Cert.Kernel.Hand.quiescent,
    fun m g _ => Cert.KernelIdeal.Hand.frame (F := Ideal) m g,
    fun m g _ => Cert.KernelIdeal.Hand.frame (F := Ideal) m g,
    fun m g _ => Cert.ReferenceIdeal.Gen.frame (F := Ideal) m g,
    fun m g _ => Cert.ReferenceIdeal.Gen.frame (F := Ideal) m g,
    trivial, algebraic⟩

end Cert.Proof

end
